-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_causal_and_finite [hPre_causal_and_finite : Cert.Pre_causal_and_finite.Facts] (m : (ℓ : Loc Cert.KernelIdeal.nD Cert.KernelIdeal.τ Cert.KernelIdeal.sig) → Buf (Elt Ideal) ℓ) : Prop :=
  ∀ c : Dev Cert.KernelIdeal.nD,
    (Cert.Pre_causal_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_causal_and_finite [hPre_causal_and_finite : Cert.Pre_causal_and_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_causal_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_causal_and_finite [hKernelIdeal : Cert.KernelIdeal.Facts] [hPre_causal_and_finite : Cert.Pre_causal_and_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_causal_and_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_causal_and_finite [hReferenceIdeal : Cert.ReferenceIdeal.Facts] [hPre_causal_and_finite : Cert.Pre_causal_and_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_causal_and_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_causal_and_finite [hKernelIdeal : Cert.KernelIdeal.Facts] [hReferenceIdeal : Cert.ReferenceIdeal.Facts] [hPre_causal_and_finite : Cert.Pre_causal_and_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_causal_and_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_causal_and_finite : Cert.Pre_causal_and_finite.Facts),
    quiescent_Kernel (hKernel := hKernel)
    ∧ quiescent_KernelIdeal (hKernelIdeal := hKernelIdeal)
    ∧ quiescent_KernelIdeal_pre_causal_and_finite (hKernelIdeal := hKernelIdeal) (hPre_causal_and_finite := hPre_causal_and_finite)
    ∧ quiescent_ReferenceIdeal (hReferenceIdeal := hReferenceIdeal)
    ∧ quiescent_ReferenceIdeal_pre_causal_and_finite (hReferenceIdeal := hReferenceIdeal) (hPre_causal_and_finite := hPre_causal_and_finite)
    ∧ preserves_Kernel_KernelIdeal
    ∧ algebraic_KernelIdeal_ReferenceIdeal_pre_causal_and_finite (hKernelIdeal := hKernelIdeal) (hReferenceIdeal := hReferenceIdeal) (hPre_causal_and_finite := hPre_causal_and_finite)
-- ==== Pre_causal_and_finite.lean ====
abbrev S2x2048x1024 : Shape := ⟨3, ![2, 2048, 1024]⟩
abbrev S1x1x2048x2048 : Shape := ⟨4, ![1, 1, 2048, 2048]⟩
abbrev S1024x3072 : Shape := ⟨2, ![1024, 3072]⟩
abbrev S3072 : Shape := ⟨1, ![3072]⟩
abbrev S1024x1024 : Shape := ⟨2, ![1024, 1024]⟩
abbrev S1024 : Shape := ⟨1, ![1024]⟩
abbrev S_ : Shape := ⟨0, ![]⟩
abbrev S1024x2048 : Shape := ⟨2, ![1024, 2048]⟩
abbrev S2048 : Shape := ⟨1, ![2048]⟩

class Facts : Prop where
  natLt_1_32 : 1 < 32
  reducesTo_S1x1x2048x2048_S_d0_1_2_3 : S1x1x2048x2048.ReducesTo [0, 1, 2, 3] S_
  h_S_ : 0 < S_.numel
  bcast_S_S2x2048x1024 : S_.BroadcastsInDim S2x2048x1024 (![] : Fin 0 → Fin S2x2048x1024.rank)
  reducesTo_S2x2048x1024_S_d0_1_2 : S2x2048x1024.ReducesTo [0, 1, 2] S_
  slices_S1024x3072_S1024x2048_0_0 : S1024x3072.Slices ![0, 0] S1024x2048
  bcast_S_S1024x2048 : S_.BroadcastsInDim S1024x2048 (![] : Fin 0 → Fin S1024x2048.rank)
  reducesTo_S1024x2048_S_d0_1 : S1024x2048.ReducesTo [0, 1] S_
  slices_S3072_S2048_0 : S3072.Slices ![0] S2048
  bcast_S_S2048 : S_.BroadcastsInDim S2048 (![] : Fin 0 → Fin S2048.rank)
  reducesTo_S2048_S_d0 : S2048.ReducesTo [0] S_

variable [Facts]

def fn_part1 {F : FTy → Type} [FloatOps F] (main_v5 : IVec S_ 1) (main_v15 : IVec S_ 1) (main_v17 : FVec F S2048 .f32) (main_cst_3 : FVec F S_ .f32) : IVec S_ 1 :=
  let main_v18 : FVec F S2048 .f32 := broadcastInDim S2048 ![] bcast_S_S2048 main_cst_3
  let main_v19 : IVec S2048 1 := cmpf .olt main_v17 main_v18
  let main_c_4 : IVec S_ 1 := constantI S_ 1 1#1
  let main_v20 : IVec S_ 1 := (fun x v => Host.reduce IntOp.andi x v reducesTo_S2048_S_d0 h_S_) main_v19 main_c_4
  let main_v21 : IVec S_ 1 := andi main_v15 main_v20
  let main_v22 : IVec S_ 1 := andi main_v5 main_v21
  main_v22

def fn {F : FTy → Type} [FloatOps F] (main_arg0 : FVec F S2x2048x1024 .f32) (main_arg1 : IVec S1x1x2048x2048 32) (main_arg2 : FVec F S1024x3072 .f32) (main_arg3 : FVec F S3072 .f32) (main_arg4 : FVec F S1024x1024 .f32) (main_arg5 : FVec F S1024 .f32) : IVec S_ 1 :=
  let main_v0 : IVec S1x1x2048x2048 32 := iotaInDim S1x1x2048x2048 32 2
  let main_v1 : IVec S1x1x2048x2048 32 := iotaInDim S1x1x2048x2048 32 3
  let main_v2 : IVec S1x1x2048x2048 1 := cmpi .sle main_v1 main_v0
  let main_v3 : IVec S1x1x2048x2048 32 := (extui 32 · natLt_1_32) main_v2
  let main_v4 : IVec S1x1x2048x2048 1 := cmpi .eq main_arg1 main_v3
  let main_c : IVec S_ 1 := constantI S_ 1 1#1
  let main_v5 : IVec S_ 1 := (fun x v => Host.reduce IntOp.andi x v reducesTo_S1x1x2048x2048_S_d0_1_2_3 h_S_) main_v4 main_c
  let main_v6 : FVec F S2x2048x1024 .f32 := Host.absf main_arg0
  let main_cst : FVec F S_ .f32 := constant S_ .f32 0x7F800000#32
  let main_v7 : FVec F S2x2048x1024 .f32 := broadcastInDim S2x2048x1024 ![] bcast_S_S2x2048x1024 main_cst
  let main_v8 : IVec S2x2048x1024 1 := cmpf .olt main_v6 main_v7
  let main_c_0 : IVec S_ 1 := constantI S_ 1 1#1
  let main_v9 : IVec S_ 1 := (fun x v => Host.reduce IntOp.andi x v reducesTo_S2x2048x1024_S_d0_1_2 h_S_) main_v8 main_c_0
  let main_v10 : FVec F S1024x2048 .f32 := (extractStridedSlice S1024x2048 ![0, 0] · slices_S1024x3072_S1024x2048_0_0) main_arg2
  let main_v11 : FVec F S1024x2048 .f32 := Host.absf main_v10
  let main_cst_1 : FVec F S_ .f32 := constant S_ .f32 0x7F800000#32
  let main_v12 : FVec F S1024x2048 .f32 := broadcastInDim S1024x2048 ![] bcast_S_S1024x2048 main_cst_1
  let main_v13 : IVec S1024x2048 1 := cmpf .olt main_v11 main_v12
  let main_c_2 : IVec S_ 1 := constantI S_ 1 1#1
  let main_v14 : IVec S_ 1 := (fun x v => Host.reduce IntOp.andi x v reducesTo_S1024x2048_S_d0_1 h_S_) main_v13 main_c_2
  let main_v15 : IVec S_ 1 := andi main_v9 main_v14
  let main_v16 : FVec F S2048 .f32 := (extractStridedSlice S2048 ![0] · slices_S3072_S2048_0) main_arg3
  let main_v17 : FVec F S2048 .f32 := Host.absf main_v16
  let main_cst_3 : FVec F S_ .f32 := constant S_ .f32 0x7F800000#32
  fn_part1 (F := F) main_v5 main_v15 main_v17 main_cst_3
-- ==== Kernel.lean ====
abbrev S2x2048x1024 : Shape := ⟨3, ![2, 2048, 1024]⟩
abbrev S1x1x2048x2048 : Shape := ⟨4, ![1, 1, 2048, 2048]⟩
abbrev S1024x3072 : Shape := ⟨2, ![1024, 3072]⟩
abbrev S3072 : Shape := ⟨1, ![3072]⟩
abbrev S1024x1024 : Shape := ⟨2, ![1024, 1024]⟩
abbrev S1024 : Shape := ⟨1, ![1024]⟩
abbrev S_ : Shape := ⟨0, ![]⟩
abbrev S2048 : Shape := ⟨1, ![2048]⟩
abbrev S1x3072 : Shape := ⟨2, ![1, 3072]⟩
abbrev S1x1024 : Shape := ⟨2, ![1, 1024]⟩
abbrev S1x2048x1024 : Shape := ⟨3, ![1, 2048, 1024]⟩
abbrev S1024x512 : Shape := ⟨2, ![1024, 512]⟩
abbrev S1x512 : Shape := ⟨2, ![1, 512]⟩
abbrev S512x1024 : Shape := ⟨2, ![512, 1024]⟩
abbrev S512x512 : Shape := ⟨2, ![512, 512]⟩
abbrev S2048x1024 : Shape := ⟨2, ![2048, 1024]⟩
abbrev S2048x512 : Shape := ⟨2, ![2048, 512]⟩
abbrev S512x64 : Shape := ⟨2, ![512, 64]⟩
abbrev S512 : Shape := ⟨1, ![512]⟩
abbrev S512x1 : Shape := ⟨2, ![512, 1]⟩
abbrev S1x512x1024 : Shape := ⟨3, ![1, 512, 1024]⟩
abbrev S1024x64 : Shape := ⟨2, ![1024, 64]⟩
abbrev S1536x64 : Shape := ⟨2, ![1536, 64]⟩
abbrev S512x1536 : Shape := ⟨2, ![512, 1536]⟩
abbrev S2048x64 : Shape := ⟨2, ![2048, 64]⟩
abbrev S512x2048 : Shape := ⟨2, ![512, 2048]⟩

abbrev nBuf : Space → Nat
  | .hbm => 15
  | .vmem => 20
  | .smem => 0
  | _ => 0

abbrev bufTy : (tb : Table) → Fin (tcTables nBuf tb) → BufTy
  | .hbm, ⟨0, _⟩ => ⟨S2x2048x1024, .f32⟩
  | .hbm, ⟨1, _⟩ => ⟨S1x1x2048x2048, .i32⟩
  | .hbm, ⟨2, _⟩ => ⟨S1024x3072, .f32⟩
  | .hbm, ⟨3, _⟩ => ⟨S3072, .f32⟩
  | .hbm, ⟨4, _⟩ => ⟨S1024x1024, .f32⟩
  | .hbm, ⟨5, _⟩ => ⟨S1024, .f32⟩
  | .hbm, ⟨6, _⟩ => ⟨S_, .f32⟩
  | .hbm, ⟨7, _⟩ => ⟨S1024, .f32⟩
  | .hbm, ⟨8, _⟩ => ⟨S_, .f32⟩
  | .hbm, ⟨9, _⟩ => ⟨S2048, .f32⟩
  | .hbm, ⟨10, _⟩ => ⟨S3072, .f32⟩
  | .hbm, ⟨11, _⟩ => ⟨S3072, .f32⟩
  | .hbm, ⟨12, _⟩ => ⟨S1x3072, .f32⟩
  | .hbm, ⟨13, _⟩ => ⟨S1x1024, .f32⟩
  | .hbm, ⟨14, _⟩ => ⟨S2x2048x1024, .f32⟩
  | .local _ .vmem, ⟨0, _⟩ => ⟨S1x2048x1024, .f32⟩
  | .local _ .vmem, ⟨1, _⟩ => ⟨S1x2048x1024, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S512x1024, .f32⟩
  | .local _ .vmem, ⟨15, _⟩ => ⟨S512x1024, .f32⟩
  | .local _ .vmem, ⟨16, _⟩ => ⟨S1x1024, .f32⟩
  | .local _ .vmem, ⟨17, _⟩ => ⟨S1x2048x1024, .f32⟩
  | .local _ .vmem, ⟨18, _⟩ => ⟨S1x2048x1024, .f32⟩
  | .local _ .vmem, ⟨19, _⟩ => ⟨S512x512, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_cst : Ref sig .tc := ⟨.hbm, 6, rfl⟩
abbrev main_call0_v0 : Ref sig .tc := ⟨.hbm, 7, rfl⟩
abbrev main_call0_cst_0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_v0 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x2048x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== KernelIdeal.lean ====
variable {F : FTy → Type} [FloatOps F] [Named F]
def κ : String → Option EReal := fun
  | "mask" => some ⊥
  | _ => none
-- ==== ReferenceIdeal.lean ====
abbrev S2x2048x1024 : Shape := ⟨3, ![2, 2048, 1024]⟩
abbrev S1x1x2048x2048 : Shape := ⟨4, ![1, 1, 2048, 2048]⟩
abbrev S1024x3072 : Shape := ⟨2, ![1024, 3072]⟩
abbrev S3072 : Shape := ⟨1, ![3072]⟩
abbrev S1024x1024 : Shape := ⟨2, ![1024, 1024]⟩
abbrev S1024 : Shape := ⟨1, ![1024]⟩
abbrev S2x2048x3072 : Shape := ⟨3, ![2, 2048, 3072]⟩
abbrev S1x1x3072 : Shape := ⟨3, ![1, 1, 3072]⟩
abbrev S2x2048x3x16x64 : Shape := ⟨5, ![2, 2048, 3, 16, 64]⟩
abbrev S3x2x16x2048x64 : Shape := ⟨5, ![3, 2, 16, 2048, 64]⟩
abbrev S1x2x16x2048x64 : Shape := ⟨5, ![1, 2, 16, 2048, 64]⟩
abbrev S2x16x2048x64 : Shape := ⟨4, ![2, 16, 2048, 64]⟩
abbrev S_ : Shape := ⟨0, ![]⟩
abbrev S2x16x2048x2048 : Shape := ⟨4, ![2, 16, 2048, 2048]⟩
abbrev S2x16x2048 : Shape := ⟨3, ![2, 16, 2048]⟩
abbrev S2x16x2048x1 : Shape := ⟨4, ![2, 16, 2048, 1]⟩
abbrev S2x2048x16x64 : Shape := ⟨4, ![2, 2048, 16, 64]⟩
abbrev S1x1x1024 : Shape := ⟨3, ![1, 1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1x1x2048x2048, .i32⟩
  | .hbm, ⟨2, _⟩ => ⟨S1024x3072, .f32⟩
  | .hbm, ⟨3, _⟩ => ⟨S3072, .f32⟩
  | .hbm, ⟨4, _⟩ => ⟨S1024x1024, .f32⟩
  | .hbm, ⟨5, _⟩ => ⟨S1024, .f32⟩
  | .hbm, ⟨6, _⟩ => ⟨S2x2048x3072, .f32⟩
  | .hbm, ⟨7, _⟩ => ⟨S1x1x3072, .f32⟩
  | .hbm, ⟨8, _⟩ => ⟨S2x2048x3072, .f32⟩
  | .hbm, ⟨9, _⟩ => ⟨S2x2048x3072, .f32⟩
  | .hbm, ⟨10, _⟩ => ⟨S2x2048x3x16x64, .f32⟩
  | .hbm, ⟨11, _⟩ => ⟨S3x2x16x2048x64, .f32⟩
  | .hbm, ⟨12, _⟩ => ⟨S1x2x16x2048x64, .f32⟩
  | .hbm, ⟨13, _⟩ => ⟨S2x16x2048x64, .f32⟩
  | .hbm, ⟨14, _⟩ => ⟨S1x2x16x2048x64, .f32⟩
  | .hbm, ⟨15, _⟩ => ⟨S2x16x2048x64, .f32⟩
  | .hbm, ⟨16, _⟩ => ⟨S1x2x16x2048x64, .f32⟩
  | .hbm, ⟨17, _⟩ => ⟨S2x16x2048x64, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S2x16x2048x2048, .f32⟩
  | .hbm, ⟨23, _⟩ => ⟨S2x16x2048x2048, .f32⟩
  | .hbm, ⟨24, _⟩ => ⟨S2x16x2048x2048, .f32⟩
  | .hbm, ⟨25, _⟩ => ⟨S_, .i32⟩
  | .hbm, ⟨26, _⟩ => ⟨S1x1x2048x2048, .i32⟩
  | .hbm, ⟨27, _⟩ => ⟨S1x1x2048x2048, .i1⟩
  | .hbm, ⟨28, _⟩ => ⟨S_, .f32⟩
  | .hbm, ⟨29, _⟩ => ⟨S_, .f32⟩
  | .hbm, ⟨30, _⟩ => ⟨S2x16x2048x2048, .i1⟩
  | .hbm, ⟨31, _⟩ => ⟨S2x16x2048x2048, .f32⟩
  | .hbm, ⟨32, _⟩ => ⟨S2x16x2048x2048, .f32⟩
  | .hbm, ⟨33, _⟩ => ⟨S_, .f32⟩
  | .hbm, ⟨34, _⟩ => ⟨S2x16x2048, .f32⟩
  | .hbm, ⟨35, _⟩ => ⟨S_, .f32⟩
  | .hbm, ⟨36, _⟩ => ⟨S2x16x2048, .f32⟩
  | .hbm, ⟨37, _⟩ => ⟨S2x16x2048, .f32⟩
  | .hbm, ⟨38, _⟩ => ⟨S2x16x2048x1, .f32⟩
  | .hbm, ⟨39, _⟩ => ⟨S2x16x2048x2048, .f32⟩
  | .hbm, ⟨40, _⟩ => ⟨S2x16x2048x2048, .f32⟩
  | .hbm, ⟨41, _⟩ => ⟨S2x16x2048x2048, .f32⟩
  | .hbm, ⟨42, _⟩ => ⟨S_, .f32⟩
  | .hbm, ⟨43, _⟩ => ⟨S2x16x2048, .f32⟩
  | .hbm, ⟨44, _⟩ => ⟨S2x16x2048x1, .f32⟩
  | .hbm, ⟨45, _⟩ => ⟨S2x16x2048x2048, .f32⟩
  | .hbm, ⟨46, _⟩ => ⟨S2x16x2048x2048, .f32⟩
  | .hbm, ⟨47, _⟩ => ⟨S2x16x2048x64, .f32⟩
  | .hbm, ⟨48, _⟩ => ⟨S2x2048x16x64, .f32⟩
  | .hbm, ⟨49, _⟩ => ⟨S2x2048x1024, .f32⟩
  | .hbm, ⟨50, _⟩ => ⟨S2x2048x1024, .f32⟩
  | .hbm, ⟨51, _⟩ => ⟨S1x1x1024, .f32⟩
  | .hbm, ⟨52, _⟩ => ⟨S2x2048x1024, .f32⟩
  | .hbm, ⟨53, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩

abbrev nD : Nat := 1
abbrev τ : Topo := Topo.v7x

variable {F : FTy → Type} [FloatOps F]
-- ==== Proof.Head.lean ====
/-
  One head of one row block of queries, as the kernel computes it: scores of 512 queries against the first `w` keys, the last
  512 columns masked above the diagonal, the exponential of each score with no maximum taken off, the weighted sum of the
  value rows and the division by the row's total. `head_apply` reads all of it at an element: `attended`, which is stated
  over all 2048 keys, with weight 0 beyond the diagonal.
-/
module

public import proofs.«01_k».proof.Proof.Gen.KernelIdeal.Skeleton
public import Idealize.ShloMosaic.Lib.Pointwise
public import Idealize.ShloMosaic.Lib.MatmulPlain
public import Idealize.ShloMosaic.Lib.WordCmp

@[expose] public section

noncomputable section

namespace Cert.KernelIdeal.Attend

open Cert.KernelIdeal Cert.KernelIdeal.Gen Idealize.ShloMosaic

/-- The word that stands where a score is masked. -/
abbrev masked : Ideal .f32 := Named.named κ "mask" 0xF149F2CA#32

/-- Under the certificate's table that word reads −∞. -/
theorem masked_eq : masked = (⊥ : EReal) := IdealRules.named_const.ideal_named_scalar κ "mask" _ ⊥ rfl

/-- The mask of a diagonal block is set where the column's number is above the row's. -/
theorem diag_apply (r c : Fin 512) : k0_pay2 (ix2 r c) = if c.val ≤ r.val then 0#1 else 1#1 := by
  pointwise [k0_pay2]
  rw [WordCmp.cmpi_sgt_ofNat (by omega) (by omega)]
  split
  · rw [decide_eq_false (by omega)]; rfl
  · rw [decide_eq_true (by omega)]; rfl

/-- One diagonal block of scores, masked above the diagonal. -/
def maskAll (a : FVec Ideal S512x512 .f32) : FVec Ideal S512x512 .f32 :=
  select k0_pay2 (broadcast S512x512 masked) a

/-- A block of scores `u + 512` columns wide with its last 512 columns masked above the diagonal and the first `u` left. -/
def maskLast {u w : ℕ} (h0 : (⟨2, ![512, w]⟩ : Shape).Slices ![0, 0] ⟨2, ![512, u]⟩)
    (h1 : (⟨2, ![512, w]⟩ : Shape).Slices ![0, u] S512x512)
    (hc : Shape.Concatenates [⟨2, ![512, u]⟩, S512x512] ⟨2, ![512, w]⟩ 1)
    (a : FVec Ideal ⟨2, ![512, w]⟩ .f32) : FVec Ideal ⟨2, ![512, w]⟩ .f32 :=
  concatenate ⟨2, ![512, w]⟩ 1 [⟨⟨2, ![512, u]⟩, extractStridedSlice ⟨2, ![512, u]⟩ ![0, 0] a h0⟩,
    ⟨S512x512, select k0_pay2 (broadcast S512x512 masked) (extractStridedSlice S512x512 ![0, u] a h1)⟩] hc

/-- Scores of 512 queries against the first `w` keys, unmasked. -/
def scores {w : ℕ} (q : FVec Ideal S512x64 .bf16) (k : FVec Ideal ⟨2, ![w, 64]⟩ .bf16) : FVec Ideal ⟨2, ![512, w]⟩ .f32 :=
  matmul (DotDims.transposedRhs 512 64 w) none q k (constant ⟨2, ![512, w]⟩ .f32 0x00000000#32)

/-- From scores to the head's output: exponentials, the weighted sum of the value rows, divided by the row's total. -/
def weigh {w : ℕ} (hr : (⟨2, ![512, w]⟩ : Shape).Reduces [1] S512) (s : FVec Ideal ⟨2, ![512, w]⟩ .f32)
    (v : FVec Ideal ⟨2, ![w, 64]⟩ .bf16) : FVec Ideal S512x64 .bf16 :=
  shapeCast S512x64 (truncf .bf16 (mulf
    (matmul (DotDims.plain 512 w 64) none (truncf .bf16 (exp s) bitsLt_bf16_f32) v (constant S512x64 .f32 0x00000000#32))
    (broadcastTo S512x64 (divf (broadcast S512x1 (Scalar.ofBits .f32 0x3F800000#32))
      (shapeCast S512x1 (multiReduction .add [1] S512 (exp s) 0x00000000#32 hr (.inl rfl) rfl) shapeCasts_S512_S512x1))
      broadcasts_S512x1_S512x64)) bitsLt_bf16_f32) shapeCasts_S512x64_S512x64

/-- An accumulator of zeros adds nothing. -/
theorem zeros_add {s : Shape} (i : s.Idx) (x : EReal) : constant (F := Ideal) s .f32 0x00000000#32 i + x = x :=
  (congrArg (· + x) Ideal.ofBits_zero_f32).trans (zero_add x)

theorem weigh_apply {w : ℕ} (hr : (⟨2, ![512, w]⟩ : Shape).Reduces [1] S512) (s : FVec Ideal ⟨2, ![512, w]⟩ .f32)
    (v : FVec Ideal ⟨2, ![w, 64]⟩ .bf16) (r : Fin 512) (d : Fin 64) :
    weigh hr s v (ix2 r d) = (∑ c : Fin w, Ideal.exp (s (ix2 r c)) * v (ix2 c d))
      * Ideal.div 1 (∑ c : Fin w, Ideal.exp (s (ix2 r c))) := by
  pointwise [weigh]
  have h := Ideal.matmul_plain_apply none (truncf .bf16 (exp s) bitsLt_bf16_f32) v (constant S512x64 .f32 0x00000000#32) r d
  simp only [← ix2_eq_valueIdx] at h
  exact congrArg (· * _) (h.trans (zeros_add _ _))

theorem scores_apply {w : ℕ} (q : FVec Ideal S512x64 .bf16) (k : FVec Ideal ⟨2, ![w, 64]⟩ .bf16) (r : Fin 512) (c : Fin w) :
    scores q k (ix2 r c) = ∑ e : Fin 64, q (ix2 r e) * k (ix2 c e) := by
  have h := Ideal.matmul_transposedRhs_apply none q k (constant ⟨2, ![512, w]⟩ .f32 0x00000000#32) r c
  simp only [← ix2_eq_valueIdx] at h
  exact h.trans (zeros_add _ _)

theorem maskAll_apply (a : FVec Ideal S512x512 .f32) (r c : Fin 512) :
    maskAll a (ix2 r c) = if c.val ≤ r.val then a (ix2 r c) else ⊥ := by
  pointwise [maskAll]
  rw [diag_apply, masked_eq]
  split <;> rfl

/-- A slice of a matrix, read at an element: the matrix at that element moved by the slice's offsets. -/
theorem slice_apply {α : Type} {M N m n a b : ℕ} (x : (⟨2, ![M, N]⟩ : Shape).Idx → α)
    (h : (⟨2, ![M, N]⟩ : Shape).Slices ![a, b] ⟨2, ![m, n]⟩) (r : Fin m) (c : Fin n) (r' : Fin M) (c' : Fin N)
    (hr : r'.val = a + r.val) (hc : c'.val = b + c.val) :
    extractStridedSlice ⟨2, ![m, n]⟩ ![a, b] x h (ix2 r c) = x (ix2 r' c') := by
  pointwise
  rw [Shape.Idx.norm2]
  exact congrArg x (congrArg₂ ix2 (Fin.ext hr.symm) (Fin.ext hc.symm))

theorem maskLast_apply {u w : ℕ} (h0 : (⟨2, ![512, w]⟩ : Shape).Slices ![0, 0] ⟨2, ![512, u]⟩)
    (h1 : (⟨2, ![512, w]⟩ : Shape).Slices ![0, u] S512x512)
    (hc : Shape.Concatenates [⟨2, ![512, u]⟩, S512x512] ⟨2, ![512, w]⟩ 1)
    (a : FVec Ideal ⟨2, ![512, w]⟩ .f32) (r : Fin 512) (c : Fin w) :
    maskLast h0 h1 hc a (ix2 r c) = if c.val ≤ u + r.val then a (ix2 r c) else ⊥ := by
  pointwise [maskLast]
  by_cases h : c.val < u
  · rw [dif_pos h, if_pos (by omega), Shape.Idx.norm2]
    refine congrArg a (congrArg₂ ix2 (Fin.ext ?_) (Fin.ext ?_))
    · exact Nat.zero_add _
    · exact Nat.zero_add _
  · rw [dif_neg h, diag_apply, masked_eq]
    simp only
    by_cases h' : c.val ≤ u + r.val
    · rw [if_pos (by omega), if_pos h', Shape.Idx.norm2]
      refine congrArg a (congrArg₂ ix2 (Fin.ext ?_) (Fin.ext ?_))
      · exact Nat.zero_add _
      · show u + (c.val - u) = c.val
        omega
    · rw [if_neg (by omega), if_neg h']; rfl

/-- The column of head `h`'s coordinate `d` among the eight heads' 512 columns. -/
def col (h : Fin 8) (d : Fin 64) : Fin 512 := ⟨64 * h.val + d.val, by omega⟩

/-- The weight query row `t` gives key row `c` in head `h`: the exponential of their scalar product, 0 for a later key. -/
def weight (Q K : FVec Ideal S2048x512 .bf16) (t : Fin 2048) (h : Fin 8) (c : Fin 2048) : EReal :=
  if c.val ≤ t.val then Ideal.exp (∑ e : Fin 64, Q (ix2 t (col h e)) * K (ix2 c (col h e))) else 0

/-- Head `h`'s output at row `t`: the weighted sum of the value rows, divided by the weights' total. -/
def attended (Q K V : FVec Ideal S2048x512 .bf16) (t : Fin 2048) (h : Fin 8) (d : Fin 64) : EReal :=
  (∑ c : Fin 2048, weight Q K t h c * V (ix2 c (col h d))) * Ideal.div 1 (∑ c : Fin 2048, weight Q K t h c)

/-- A sum over the first `w` rows is one over all of them when the rest contribute nothing. -/
theorem sum_first {w : ℕ} (hw : w ≤ 2048) (f : Fin w → EReal) (g : Fin 2048 → EReal)
    (h : ∀ c : Fin w, f c = g (Fin.castLE hw c)) (h' : ∀ c : Fin 2048, w ≤ c.val → g c = 0) :
    ∑ c, f c = ∑ c, g c := by
  refine Fintype.sum_of_injective (Fin.castLE hw) (Fin.castLE_injective hw) f g (fun c hc => h' c ?_) h
  by_contra hlt
  exact hc ⟨⟨c.val, by omega⟩, rfl⟩

/-- Scores that are the scalar products up to the diagonal and −∞ beyond give, weighed, the head's output. -/
theorem weigh_masked {u w : ℕ} (Q K V : FVec Ideal S2048x512 .bf16) (h : Fin 8) (hu : u + 512 = w) (hw : w ≤ 2048)
    (hr : (⟨2, ![512, w]⟩ : Shape).Reduces [1] S512) (s : FVec Ideal ⟨2, ![512, w]⟩ .f32) (v : FVec Ideal ⟨2, ![w, 64]⟩ .bf16)
    (hs : ∀ (r : Fin 512) (c : Fin w), s (ix2 r c) = if c.val ≤ u + r.val then
      ∑ e : Fin 64, Q (ix2 ⟨u + r.val, by omega⟩ (col h e)) * K (ix2 (Fin.castLE hw c) (col h e)) else ⊥)
    (hv : ∀ (c : Fin w) (d : Fin 64), v (ix2 c d) = V (ix2 (Fin.castLE hw c) (col h d)))
    (r : Fin 512) (d : Fin 64) :
    weigh hr s v (ix2 r d) = attended Q K V ⟨u + r.val, by omega⟩ h d := by
  have he (c : Fin w) : Ideal.exp (s (ix2 r c)) = weight Q K ⟨u + r.val, by omega⟩ h (Fin.castLE hw c) := by
    rw [hs, weight]
    simp only [Fin.val_castLE]
    split
    · rfl
    · rfl
  have hz (c : Fin 2048) (hc : w ≤ c.val) : weight Q K ⟨u + r.val, by omega⟩ h c = 0 :=
    if_neg (by show ¬ c.val ≤ u + r.val; omega)
  rw [weigh_apply, attended]
  refine congrArg₂ (· * Ideal.div 1 ·) (sum_first hw _ _ (fun c => by rw [he, hv]) fun c hc => by rw [hz c hc, zero_mul])
    (sum_first hw _ _ he hz)

/-- The first row block's head: one diagonal block of scores. -/
theorem head_first (Q K V : FVec Ideal S2048x512 .bf16) (h : Fin 8) {o : ℕ} (ho : o = 64 * h.val)
    (hr : S512x512.Reduces [1] S512) (hs : S2048x512.Slices ![0, o] S512x64) (r : Fin 512) (d : Fin 64) :
    weigh hr (maskAll (scores (extractStridedSlice S512x64 ![0, o] Q hs) (extractStridedSlice S512x64 ![0, o] K hs)))
      (extractStridedSlice S512x64 ![0, o] V hs) (ix2 r d) = attended Q K V ⟨0 + r.val, by omega⟩ h d := by
  subst ho
  refine weigh_masked (u := 0) (w := 512) Q K V h rfl (by omega) hr _ _ (fun r c => ?_)
    (fun c d => slice_apply V hs c d _ _ (Nat.zero_add _).symm rfl) r d
  rw [maskAll_apply, scores_apply]
  refine if_congr (by rw [Nat.zero_add]) (Finset.sum_congr rfl fun e _ => congrArg₂ (· * ·) ?_ ?_) rfl
  · exact slice_apply Q hs r e _ _ rfl rfl
  · exact slice_apply K hs c e _ _ (Nat.zero_add _).symm rfl

/-- A later row block's head: `u` whole columns of scores, then a diagonal block. -/
theorem head_later (Q K V : FVec Ideal S2048x512 .bf16) (h : Fin 8) {o u w : ℕ} (ho : o = 64 * h.val) (hu : u + 512 = w)
    (hw : w ≤ 2048) (h0 : (⟨2, ![512, w]⟩ : Shape).Slices ![0, 0] ⟨2, ![512, u]⟩)
    (h1 : (⟨2, ![512, w]⟩ : Shape).Slices ![0, u] S512x512)
    (hc : Shape.Concatenates [⟨2, ![512, u]⟩, S512x512] ⟨2, ![512, w]⟩ 1)
    (hr : (⟨2, ![512, w]⟩ : Shape).Reduces [1] S512) (hq : S2048x512.Slices ![u, o] S512x64)
    (hk : S2048x512.Slices ![0, o] ⟨2, ![w, 64]⟩) (r : Fin 512) (d : Fin 64) :
    weigh hr (maskLast h0 h1 hc (scores (extractStridedSlice S512x64 ![u, o] Q hq) (extractStridedSlice ⟨2, ![w, 64]⟩ ![0, o] K hk)))
      (extractStridedSlice ⟨2, ![w, 64]⟩ ![0, o] V hk) (ix2 r d) = attended Q K V ⟨u + r.val, by omega⟩ h d := by
  subst ho
  refine weigh_masked Q K V h hu hw hr _ _ (fun r c => ?_)
    (fun c d => slice_apply V hk c d _ _ (Nat.zero_add _).symm rfl) r d
  rw [maskLast_apply, scores_apply]
  refine if_congr Iff.rfl (Finset.sum_congr rfl fun e _ => congrArg₂ (· * ·) ?_ ?_) rfl
  · exact slice_apply Q hq r e _ _ rfl rfl
  · exact slice_apply K hk c e _ _ (Nat.zero_add _).symm rfl

end Cert.KernelIdeal.Attend

end
-- ==== Proof.Block.lean ====
/-
  The scratch block and the output block. Each row block of 512 queries stores its eight heads' outputs as eight column
  strips of the scratch block (`strips`); read back whole, the scratch holds `attended` (`strips_read`), whatever was stored
  before. The output's row block then takes what it held plus the scratch times the slab of the output weights
  (`added_apply`).
-/
module

public import proofs.«01_k».proof.Proof.Head
public import Idealize.ShloMosaic.Lib.Pipeline.ReadBack

@[expose] public section

noncomputable section

namespace Cert.KernelIdeal.Attend

open Cert.KernelIdeal Cert.KernelIdeal.Gen Idealize.ShloMosaic

/-- A list of stores into the scratch block. -/
abbrev Stores := List (View.Piece (Elt Ideal) S512x512 .bf16)

theorem strip_inb (h : Fin 8) : ∀ a, (![0, 64 * h.val] : Fin 2 → Nat) a + S512x64.size a ≤ S512x512.size a := by
  intro a
  match a with
  | 0 => exact Nat.le_of_eq rfl
  | 1 => show 64 * h.val + 64 ≤ 512; omega

/-- The column strip of head `h` in the scratch block. -/
abbrev strip (h : Fin 8) : Rect S512x512 := Rect.unit ![0, 64 * h.val] S512x64.size (strip_inb h)

/-- Eight strips, the last head's first: a list of stores has the newest first. -/
def strips (y : Fin 8 → FVec Ideal S512x64 .bf16) : Stores :=
  [7, 6, 5, 4, 3, 2, 1, 0].map fun h => ⟨strip h, y h⟩

/-- The coordinates of the scratch block are below 512. -/
theorem coord_lt (i : S512x512.Idx) (a : Fin 2) : (i a).val < 512 := by
  match a with
  | 0 => exact (i 0).isLt
  | 1 => exact (i 1).isLt

/-- The scratch block's contents for the queries from row `u` on. -/
def block (Q K V : FVec Ideal S2048x512 .bf16) (u : ℕ) (hu : u + 512 ≤ 2048) : FVec Ideal S512x512 .bf16 := fun i =>
  attended Q K V ⟨u + (i 0).val, by have := coord_lt i 0; omega⟩
    ⟨(i 1).val / 64, by have := coord_lt i 1; omega⟩ ⟨(i 1).val % 64, Nat.mod_lt _ (by decide)⟩

/-- `attended` at equal coordinates. -/
theorem attended_at (Q K V : FVec Ideal S2048x512 .bf16) {t t' h h' d d' : ℕ} {ht : t < 2048} {ht' : t' < 2048} {hh : h < 8}
    {hh' : h' < 8} {hd : d < 64} {hd' : d' < 64} (et : t = t') (eh : h = h') (ed : d = d') :
    attended Q K V ⟨t, ht⟩ ⟨h, hh⟩ ⟨d, hd⟩ = attended Q K V ⟨t', ht'⟩ ⟨h', hh'⟩ ⟨d', hd'⟩ := by
  subst et eh ed
  rfl

/-- A head's strip of that block is the head's output. -/
theorem block_strip (Q K V : FVec Ideal S2048x512 .bf16) (u : ℕ) (hu : u + 512 ≤ 2048) (h : Fin 8) (r : Fin 512) (d : Fin 64) :
    block Q K V u hu ((strip h).emb (ix2 r d)) = attended Q K V ⟨u + r.val, by omega⟩ h d := by
  have e0 : ((strip h).emb (ix2 r d) 0).val = r.val := by
    show 0 + 1 * r.val = r.val
    omega
  have e1 : ((strip h).emb (ix2 r d) 1).val = 64 * h.val + d.val := by
    show 64 * h.val + 1 * d.val = 64 * h.val + d.val
    omega
  exact attended_at Q K V (by rw [e0]) (by rw [e1]; omega) (by rw [e1]; omega)

/-- Every column lies in its head's strip. -/
theorem mem_strip (i : S512x512.Idx) (h : Fin 8) (hh : h.val = (i 1).val / 64) : i ∈ (strip h).set := by
  rw [Rect.mem_set_unit]
  have h0 := coord_lt i 0
  have h1 := coord_lt i 1
  intro a
  match a with
  | 0 => exact ⟨Nat.zero_le _, show (i 0).val < 0 + 512 by omega⟩
  | 1 => exact ⟨show 64 * h.val ≤ (i 1).val by omega, show (i 1).val < 64 * h.val + 64 by omega⟩

/-- Read back whole, eight strips holding the heads' outputs are the block, over any earlier stores. -/
theorem strips_read {sp : Space} (v : View sig .tc sp S512x512 .bf16) (Q K V : FVec Ideal S2048x512 .bf16) (u : ℕ)
    (hu : u + 512 ≤ 2048) (y : Fin 8 → FVec Ideal S512x64 .bf16) (L : Stores)
    (hy : ∀ (h : Fin 8) (r : Fin 512) (d : Fin 64), y h (ix2 r d) = attended Q K V ⟨u + r.val, by omega⟩ h d)
    (inb : ∀ a, (![0, 0] : Fin 2 → Nat) a + S512x512.size a ≤ S512x512.size a) :
    v.readCov (strips y ++ L) (Rect.unit ![0, 0] S512x512.size inb).toLoadRect = block Q K V u hu := by
  rw [View.readCov_eq_canon']
  funext j
  have hj : (Rect.unit ![0, 0] S512x512.size inb).toLoadRect.idx j = j := by
    funext a
    refine Fin.ext ?_
    match a with
    | 0 => show 0 + 1 * (j 0).val = (j 0).val; omega
    | 1 => show 0 + 1 * (j 1).val = (j 1).val; omega
  rw [hj]
  refine View.canon_append_of_pieces (block Q K V u hu) L (strips y) (fun p hp => ?_) j ?_
  · obtain ⟨h, -, rfl⟩ := List.mem_map.mp hp
    intro x
    obtain ⟨r, d, rfl⟩ : ∃ (r : Fin 512) (d : Fin 64), x = ix2 r d := ⟨x 0, x 1, eq_ix2 x⟩
    exact (hy h r d).trans (block_strip Q K V u hu h r d).symm
  · have h1 := coord_lt j 1
    refine ⟨_, List.mem_map.mpr ⟨⟨(j 1).val / 64, by omega⟩, ?_, rfl⟩, mem_strip j _ rfl⟩
    generalize (⟨(j 1).val / 64, _⟩ : Fin 8) = h
    revert h
    decide

/-- One row block of the output after its step: what it held, plus the scratch times the slab of output weights. -/
theorem added_apply (wo : FVec Ideal S512x1024 .bf16) (y : FVec Ideal S512x512 .bf16) (old : FVec Ideal S1x512x1024 .f32)
    (r : Fin 512) (j : Fin 1024) :
    k0_pay25 wo y old (ix3 0 r j) = old (ix3 0 r j) + ∑ c : Fin 512, y (ix2 r c) * wo (ix2 c j) := by
  pointwise [k0_pay25]

end Cert.KernelIdeal.Attend

end
-- ==== Proof.Stored.lean ====
/-
  The stores one grid step makes, written down: four row blocks, each with eight strips into the scratch block and one
  read-modify-write of its rows of the output block. The first group of heads starts the output block from the bias; the
  second one adds to what the first left.
-/
module

public import proofs.«01_k».proof.Proof.Block
public import proofs.«01_k».proof.Proof.Gen.KernelIdeal.Frame
public import Idealize.ShloMosaic.Lib.Tactic

@[expose] public section

set_option maxRecDepth 16384

noncomputable section

namespace Cert.KernelIdeal.Attend

open Cert.KernelIdeal Cert.KernelIdeal.Gen Idealize.ShloMosaic Idealize.ShloMosaic.TcCoe Idealize.SL.Sem

theorem slice_inb {u w : ℕ} (h : Fin 8) (hu : u + w ≤ 2048) : S2048x512.Slices ![u, 64 * h.val] ⟨2, ![w, 64]⟩ := by
  refine ⟨rfl, fun a => ?_⟩
  match a with
  | 0 => exact hu
  | 1 => show 64 * h.val + 64 ≤ 512; omega

/-- The eight heads of the first row block. -/
def firstHeads (Q K V : FVec Ideal S2048x512 .bf16) (h : Fin 8) : FVec Ideal S512x64 .bf16 :=
  weigh reduces_S512x512_S512 (maskAll (scores (extractStridedSlice S512x64 ![0, 64 * h.val] Q (slice_inb h (by decide)))
    (extractStridedSlice S512x64 ![0, 64 * h.val] K (slice_inb h (by decide)))))
    (extractStridedSlice S512x64 ![0, 64 * h.val] V (slice_inb h (by decide)))

/-- The eight heads of the row block from row `u` on, over the first `w = u + 512` keys. -/
def laterHeads {u w : ℕ} (hu : u + 512 ≤ 2048) (hw : 0 + w ≤ 2048) (h0 : (⟨2, ![512, w]⟩ : Shape).Slices ![0, 0] ⟨2, ![512, u]⟩)
    (h1 : (⟨2, ![512, w]⟩ : Shape).Slices ![0, u] S512x512)
    (hc : Shape.Concatenates [⟨2, ![512, u]⟩, S512x512] ⟨2, ![512, w]⟩ 1)
    (hr : (⟨2, ![512, w]⟩ : Shape).Reduces [1] S512) (Q K V : FVec Ideal S2048x512 .bf16) (h : Fin 8) :
    FVec Ideal S512x64 .bf16 :=
  weigh hr (maskLast h0 h1 hc (scores (extractStridedSlice S512x64 ![u, 64 * h.val] Q (slice_inb h hu))
    (extractStridedSlice ⟨2, ![w, 64]⟩ ![0, 64 * h.val] K (slice_inb h hw))))
    (extractStridedSlice ⟨2, ![w, 64]⟩ ![0, 64 * h.val] V (slice_inb h hw))

/-- The scratch block's stores up to the first row block's, the second's, the third's and the fourth's. -/
def scratch0 (Q K V : FVec Ideal S2048x512 .bf16) : Stores := strips (firstHeads Q K V)
def scratch1 (Q K V : FVec Ideal S2048x512 .bf16) : Stores :=
  strips (laterHeads (u := 512) (w := 1024) (by decide) (by decide) slices_S512x1024_o0_0_S512x512
    slices_S512x1024_o0_512_S512x512 concatenates_S512x512_S512x512_S512x1024_d1 reduces_S512x1024_S512 Q K V) ++ scratch0 Q K V
def scratch2 (Q K V : FVec Ideal S2048x512 .bf16) : Stores :=
  strips (laterHeads (u := 1024) (w := 1536) (by decide) (by decide) slices_S512x1536_o0_0_S512x1024
    slices_S512x1536_o0_1024_S512x512 concatenates_S512x1024_S512x512_S512x1536_d1 reduces_S512x1536_S512 Q K V) ++ scratch1 Q K V
def scratch3 (Q K V : FVec Ideal S2048x512 .bf16) : Stores :=
  strips (laterHeads (u := 1536) (w := 2048) (by decide) (by decide) slices_S512x2048_o0_0_S512x1536
    slices_S512x2048_o0_1536_S512x512 concatenates_S512x1536_S512x512_S512x2048_d1 reduces_S512x2048_S512 Q K V) ++ scratch2 Q K V

/-- A list of stores into the output block. -/
abbrev OutStores := List (View.Piece (Elt Ideal) S1x2048x1024 .f32)

/-- The output block's rows from row `u` on. -/
abbrev rows (u : ℕ) (inb : ∀ a, (![0, u, 0] : Fin 3 → Nat) a + S1x512x1024.size a ≤ S1x2048x1024.size a) : Rect S1x2048x1024 :=
  Rect.unit ![0, u, 0] S1x512x1024.size inb

/-- The whole scratch block. -/
abbrev whole : Rect S512x512 := Rect.unit ![0, 0] S512x512.size inb_S512x512_S512x512_0_0

section

variable {sp sp' : Space} (v : View sig .tc sp S1x2048x1024 .f32) (v' : View sig .tc sp' S512x512 .bf16)

/-- The output block's stores of a first group's step: the bias over the whole block, then the four row blocks. -/
def storesFirst (Q K V : FVec Ideal S2048x512 .bf16) (wo : FVec Ideal S512x1024 .bf16) (b : FVec Ideal S1x2048x1024 .f32) : OutStores :=
  have l0 : OutStores := [⟨Rect.unit ![0, 0, 0] S1x2048x1024.size inb_S1x2048x1024_S1x2048x1024_0_0_0, b⟩]
  have l1 : OutStores := ⟨rows 0 inb_S1x2048x1024_S1x512x1024_0_0_0, k0_pay25 wo (v'.readCov (scratch0 Q K V) whole.toLoadRect)
    (v.readCov l0 (rows 0 inb_S1x2048x1024_S1x512x1024_0_0_0).toLoadRect)⟩ :: l0
  have l2 : OutStores := ⟨rows 512 inb_S1x2048x1024_S1x512x1024_0_512_0, k0_pay25 wo (v'.readCov (scratch1 Q K V) whole.toLoadRect)
    (v.readCov l1 (rows 512 inb_S1x2048x1024_S1x512x1024_0_512_0).toLoadRect)⟩ :: l1
  have l3 : OutStores := ⟨rows 1024 inb_S1x2048x1024_S1x512x1024_0_1024_0, k0_pay25 wo (v'.readCov (scratch2 Q K V) whole.toLoadRect)
    (v.readCov l2 (rows 1024 inb_S1x2048x1024_S1x512x1024_0_1024_0).toLoadRect)⟩ :: l2
  ⟨rows 1536 inb_S1x2048x1024_S1x512x1024_0_1536_0, k0_pay25 wo (v'.readCov (scratch3 Q K V) whole.toLoadRect)
    (v.readCov l3 (rows 1536 inb_S1x2048x1024_S1x512x1024_0_1536_0).toLoadRect)⟩ :: l3

/-- The output block's stores of a second group's step, over the contents `f` of its buffer. -/
def storesSecond (Q K V : FVec Ideal S2048x512 .bf16) (wo : FVec Ideal S512x1024 .bf16) (f : v.ty.Contents (Elt Ideal)) : OutStores :=
  [⟨rows 1536 inb_S1x2048x1024_S1x512x1024_0_1536_0, k0_pay25 wo (v'.readCov (scratch3 Q K V) whole.toLoadRect)
      (v.readAt (Elt Ideal) (rows 1536 inb_S1x2048x1024_S1x512x1024_0_1536_0).toLoadRect f)⟩,
    ⟨rows 1024 inb_S1x2048x1024_S1x512x1024_0_1024_0, k0_pay25 wo (v'.readCov (scratch2 Q K V) whole.toLoadRect)
      (v.readAt (Elt Ideal) (rows 1024 inb_S1x2048x1024_S1x512x1024_0_1024_0).toLoadRect f)⟩,
    ⟨rows 512 inb_S1x2048x1024_S1x512x1024_0_512_0, k0_pay25 wo (v'.readCov (scratch1 Q K V) whole.toLoadRect)
      (v.readAt (Elt Ideal) (rows 512 inb_S1x2048x1024_S1x512x1024_0_512_0).toLoadRect f)⟩,
    ⟨rows 0 inb_S1x2048x1024_S1x512x1024_0_0_0, k0_pay25 wo (v'.readCov (scratch0 Q K V) whole.toLoadRect)
      (v.readAt (Elt Ideal) (rows 0 inb_S1x2048x1024_S1x512x1024_0_0_0).toLoadRect f)⟩]

end

/-- What a load of a whole buffer returns. -/
abbrev loaded {s : Shape} {e : EltTy} (a : Memref sig .tc .vmem s e) (ha : a.IsWhole) {off : Fin s.rank → ℕ}
    (inb : ∀ x, off x + s.size x ≤ s.size x) (x : s.Idx → Elt Ideal e) : s.Idx → Elt Ideal e :=
  View.readAt (Elt Ideal) a.view (Rect.unit off s.size inb).toLoadRect (ha.unread x)

theorem stores_first (c : Dev nD) (i : grid0.Coords)
    (arg2 : Memref sig .tc .vmem S1x2048x1024 .f32) (harg2 : arg2.IsWhole)
    (arg3 : Memref sig .tc .vmem S1024x512 .f32) (harg3 : arg3.IsWhole)
    (arg4 : Memref sig .tc .vmem S1024x512 .f32) (harg4 : arg4.IsWhole)
    (arg5 : Memref sig .tc .vmem S1024x512 .f32) (harg5 : arg5.IsWhole)
    (arg6 : Memref sig .tc .vmem S1x512 .f32) (harg6 : arg6.IsWhole)
    (arg7 : Memref sig .tc .vmem S1x512 .f32) (harg7 : arg7.IsWhole)
    (arg8 : Memref sig .tc .vmem S1x512 .f32) (harg8 : arg8.IsWhole)
    (arg9 : Memref sig .tc .vmem S512x1024 .f32) (harg9 : arg9.IsWhole)
    (arg10 : Memref sig .tc .vmem S1x1024 .f32) (harg10 : arg10.IsWhole)
    (arg11 : Memref sig .tc .vmem S1x2048x1024 .f32) (harg11 : arg11.IsWhole)
    (arg12 : Memref sig .tc .vmem S512x512 .bf16) (harg12 : arg12.IsWhole) (hc0 : cond0_0 i)
    (x0 : Vec Ideal S1x2048x1024 .f32) (x1 : Vec Ideal S1024x512 .f32) (x2 : Vec Ideal S1024x512 .f32) (x3 : Vec Ideal S1024x512 .f32) (x4 : Vec Ideal S1x512 .f32) (x5 : Vec Ideal S1x512 .f32) (x6 : Vec Ideal S1x512 .f32) (x7 : Vec Ideal S512x1024 .f32) (x8 : Vec Ideal S1x1024 .f32) :
    (kernelRun0_A (F := Ideal) c i arg2 harg2 arg3 harg3 arg4 harg4 arg5 harg5 arg6 harg6 arg7 harg7 arg8 harg8 arg9 harg9 arg10 harg10 arg11 harg11 arg12 harg12 hc0 x0 x1 x2 x3 x4 x5 x6 x7 x8).1
      = storesFirst arg11.view arg12.view (k0_pay4 (loaded arg2 harg2 inb_S1x2048x1024_S1x2048x1024_0_0_0 x0)
          (loaded arg3 harg3 inb_S1024x512_S1024x512_0_0 x1) (loaded arg6 harg6 inb_S1x512_S1x512_0_0 x4))
        (k0_pay5 (loaded arg2 harg2 inb_S1x2048x1024_S1x2048x1024_0_0_0 x0)
          (loaded arg4 harg4 inb_S1024x512_S1024x512_0_0 x2) (loaded arg7 harg7 inb_S1x512_S1x512_0_0 x5))
        (k0_pay6 (loaded arg2 harg2 inb_S1x2048x1024_S1x2048x1024_0_0_0 x0)
          (loaded arg5 harg5 inb_S1024x512_S1024x512_0_0 x3) (loaded arg8 harg8 inb_S1x512_S1x512_0_0 x6))
        (k0_pay7 (loaded arg9 harg9 inb_S512x1024_S512x1024_0_0 x7))
        (k0_pay8 (loaded arg10 harg10 inb_S1x1024_S1x1024_0_0 x8)) := by
  unfold kernelRun0_A
  rfl

theorem stores_second (c : Dev nD) (i : grid0.Coords)
    (arg2 : Memref sig .tc .vmem S1x2048x1024 .f32) (harg2 : arg2.IsWhole)
    (arg3 : Memref sig .tc .vmem S1024x512 .f32) (harg3 : arg3.IsWhole)
    (arg4 : Memref sig .tc .vmem S1024x512 .f32) (harg4 : arg4.IsWhole)
    (arg5 : Memref sig .tc .vmem S1024x512 .f32) (harg5 : arg5.IsWhole)
    (arg6 : Memref sig .tc .vmem S1x512 .f32) (harg6 : arg6.IsWhole)
    (arg7 : Memref sig .tc .vmem S1x512 .f32) (harg7 : arg7.IsWhole)
    (arg8 : Memref sig .tc .vmem S1x512 .f32) (harg8 : arg8.IsWhole)
    (arg9 : Memref sig .tc .vmem S512x1024 .f32) (harg9 : arg9.IsWhole)
    (arg10 : Memref sig .tc .vmem S1x1024 .f32) (harg10 : arg10.IsWhole)
    (arg11 : Memref sig .tc .vmem S1x2048x1024 .f32) (harg11 : arg11.IsWhole)
    (arg12 : Memref sig .tc .vmem S512x512 .bf16) (harg12 : arg12.IsWhole) (hc0 : ¬cond0_0 i)
    (x0 : Vec Ideal S1x2048x1024 .f32) (x1 : Vec Ideal S1024x512 .f32) (x2 : Vec Ideal S1024x512 .f32) (x3 : Vec Ideal S1024x512 .f32) (x4 : Vec Ideal S1x512 .f32) (x5 : Vec Ideal S1x512 .f32) (x6 : Vec Ideal S1x512 .f32) (x7 : Vec Ideal S512x1024 .f32) (x8 : Vec Ideal S1x1024 .f32) (xo9 : Vec Ideal S1x2048x1024 .f32) :
    (kernelRun0_B (F := Ideal) c i arg2 harg2 arg3 harg3 arg4 harg4 arg5 harg5 arg6 harg6 arg7 harg7 arg8 harg8 arg9 harg9 arg10 harg10 arg11 harg11 arg12 harg12 hc0 x0 x1 x2 x3 x4 x5 x6 x7 x8 xo9).1
      = storesSecond arg11.view arg12.view (k0_pay4 (loaded arg2 harg2 inb_S1x2048x1024_S1x2048x1024_0_0_0 x0)
          (loaded arg3 harg3 inb_S1024x512_S1024x512_0_0 x1) (loaded arg6 harg6 inb_S1x512_S1x512_0_0 x4))
        (k0_pay5 (loaded arg2 harg2 inb_S1x2048x1024_S1x2048x1024_0_0_0 x0)
          (loaded arg4 harg4 inb_S1024x512_S1024x512_0_0 x2) (loaded arg7 harg7 inb_S1x512_S1x512_0_0 x5))
        (k0_pay6 (loaded arg2 harg2 inb_S1x2048x1024_S1x2048x1024_0_0_0 x0)
          (loaded arg5 harg5 inb_S1024x512_S1024x512_0_0 x3) (loaded arg8 harg8 inb_S1x512_S1x512_0_0 x6))
        (k0_pay7 (loaded arg9 harg9 inb_S512x1024_S512x1024_0_0 x7)) (harg11.unread xo9) := by
  unfold kernelRun0_B
  rfl

end Cert.KernelIdeal.Attend

end
-- ==== Proof.StepValue.lean ====
/-
  What one grid step leaves in the output block: its earlier contents (the bias, or what the first group of heads left) plus
  the group's heads' outputs times the group's slab of output weights.
-/
module

public import proofs.«01_k».proof.Proof.Stored

@[expose] public section

noncomputable section

namespace Cert.KernelIdeal.Attend

open Cert.KernelIdeal Cert.KernelIdeal.Gen Idealize.ShloMosaic Idealize.ShloMosaic.TcCoe Idealize.SL.Sem

section

variable {sp : Space} (v' : View sig .tc sp S512x512 .bf16) (Q K V : FVec Ideal S2048x512 .bf16)

theorem scratch0_read : v'.readCov (scratch0 Q K V) whole.toLoadRect = block Q K V 0 (by decide) := by
  have h := strips_read v' Q K V 0 (by decide) (firstHeads Q K V) [] (fun h r d => head_first Q K V h rfl _ _ r d)
    inb_S512x512_S512x512_0_0
  rwa [List.append_nil] at h

theorem scratch1_read : v'.readCov (scratch1 Q K V) whole.toLoadRect = block Q K V 512 (by decide) :=
  strips_read v' Q K V 512 (by decide) _ _ (fun h r d => head_later Q K V h rfl rfl (by decide) _ _ _ _ _ _ r d) _

theorem scratch2_read : v'.readCov (scratch2 Q K V) whole.toLoadRect = block Q K V 1024 (by decide) :=
  strips_read v' Q K V 1024 (by decide) _ _ (fun h r d => head_later Q K V h rfl rfl (by decide) _ _ _ _ _ _ r d) _

theorem scratch3_read : v'.readCov (scratch3 Q K V) whole.toLoadRect = block Q K V 1536 (by decide) :=
  strips_read v' Q K V 1536 (by decide) _ _ (fun h r d => head_later Q K V h rfl rfl (by decide) _ _ _ _ _ _ r d) _

end

/-- A group's contribution to the output at row `t`, column `j`: its heads' outputs times its slab of the output weights. -/
def contribution (Q K V : FVec Ideal S2048x512 .bf16) (wo : FVec Ideal S512x1024 .bf16) (t : Fin 2048) (j : Fin 1024) : EReal :=
  ∑ c : Fin 512, attended Q K V t ⟨c.val / 64, by omega⟩ ⟨c.val % 64, Nat.mod_lt _ (by decide)⟩ * wo (ix2 c j)

/-- Contents `f` of the output block with the group's contribution added. -/
def plus (Q K V : FVec Ideal S2048x512 .bf16) (wo : FVec Ideal S512x1024 .bf16) (f : FVec Ideal S1x2048x1024 .f32) :
    FVec Ideal S1x2048x1024 .f32 := fun y => f y + contribution Q K V wo (y 1) (y 2)

section

variable (Q K V : FVec Ideal S2048x512 .bf16) (wo : FVec Ideal S512x1024 .bf16) (f : FVec Ideal S1x2048x1024 .f32)

/-- The store of one row block, where the load before it read `f`, is that row block of `plus`. -/
theorem stored_plus (u : ℕ) (hu : u + 512 ≤ 2048) (inb : ∀ a, (![0, u, 0] : Fin 3 → Nat) a + S1x512x1024.size a ≤ S1x2048x1024.size a)
    (old : FVec Ideal S1x512x1024 .f32) (hold : ∀ x : S1x512x1024.Idx, old x = f ((rows u inb).emb x)) (x : S1x512x1024.Idx) :
    k0_pay25 wo (block Q K V u hu) old x = plus Q K V wo f ((rows u inb).emb x) := by
  obtain ⟨z, r, j, rfl⟩ : ∃ (z : Fin 1) (r : Fin 512) (j : Fin 1024), x = ix3 z r j := ⟨x 0, x 1, x 2, eq_ix3 x⟩
  obtain rfl : z = 0 := Subsingleton.elim _ _
  rw [added_apply, hold]
  have e1 : (rows u inb).emb (ix3 0 r j) 1 = (⟨u + r.val, by omega⟩ : Fin 2048) :=
    Fin.ext (show u + 1 * r.val = u + r.val by omega)
  have e2 : (rows u inb).emb (ix3 0 r j) 2 = j := Fin.ext (show 0 + 1 * j.val = j.val by omega)
  unfold plus
  rw [e1, e2]
  rfl

/-- Four stores of row blocks of `plus`, over any earlier ones, leave `plus`. -/
theorem canon_rows (L L' : OutStores)
    (hL : ∀ p ∈ L, ∀ x : p.1.shape.Idx, p.2 x = plus Q K V wo f (p.1.emb x))
    (hc : ∀ u ∈ [0, 512, 1024, 1536], ∃ inb y, (⟨rows u inb, y⟩ : View.Piece (Elt Ideal) S1x2048x1024 .f32) ∈ L) :
    View.canon (L ++ L') = plus Q K V wo f := by
  funext y
  refine View.canon_append_of_pieces _ L' L hL y ?_
  have hy1 : (y 1).val < 2048 := (y 1).isLt
  have hy2 : (y 2).val < 1024 := (y 2).isLt
  have hy0 : (y 0).val < 1 := (y 0).isLt
  obtain ⟨u, hu, h1, h2⟩ : ∃ u ∈ [0, 512, 1024, 1536], u ≤ (y 1).val ∧ (y 1).val < u + 512 := by
    by_cases a : (y 1).val < 512
    · exact ⟨0, by decide, by omega, by omega⟩
    · by_cases b : (y 1).val < 1024
      · exact ⟨512, by decide, by omega, by omega⟩
      · by_cases c : (y 1).val < 1536
        · exact ⟨1024, by decide, by omega, by omega⟩
        · exact ⟨1536, by decide, by omega, by omega⟩
  obtain ⟨inb, w, hp⟩ := hc u hu
  refine ⟨_, hp, ?_⟩
  rw [Rect.mem_set_unit]
  intro a
  match a with
  | 0 => exact ⟨Nat.zero_le _, show (y 0).val < 0 + 1 by omega⟩
  | 1 => exact ⟨h1, h2⟩
  | 2 => exact ⟨Nat.zero_le _, show (y 2).val < 0 + 1024 by omega⟩

variable {sp sp' : Space} (v : View sig .tc sp S1x2048x1024 .f32) (v' : View sig .tc sp' S512x512 .bf16)

/-- A load of one row block after the store of the whole block reads what was stored. -/
theorem read_filled (u : ℕ) (inb : ∀ a, (![0, u, 0] : Fin 3 → Nat) a + S1x512x1024.size a ≤ S1x2048x1024.size a)
    (x : S1x512x1024.Idx) :
    v.readCov ([⟨Rect.unit ![0, 0, 0] S1x2048x1024.size inb_S1x2048x1024_S1x2048x1024_0_0_0, f⟩] : OutStores)
      (rows u inb).toLoadRect x = f ((rows u inb).emb x) := by
  rw [View.readCov_fill (Val := Elt Ideal) v inb_S1x2048x1024_S1x2048x1024_0_0_0 f [] (rows u inb) (by decide)]
  rfl

/-- A load of one row block reads nothing of a store of another. -/
theorem read_other {u u' : ℕ} (inb : ∀ a, (![0, u, 0] : Fin 3 → Nat) a + S1x512x1024.size a ≤ S1x2048x1024.size a)
    (inb' : ∀ a, (![0, u', 0] : Fin 3 → Nat) a + S1x512x1024.size a ≤ S1x2048x1024.size a) (w : FVec Ideal S1x512x1024 .f32)
    (L : OutStores) (h : LoadRect.disj (rows u inb) (rows u' inb').toLoadRect = true) (x : S1x512x1024.Idx) (z : EReal)
    (hz : v.readCov L (rows u' inb').toLoadRect x = z) :
    v.readCov (⟨rows u inb, w⟩ :: L) (rows u' inb').toLoadRect x = z := by
  rw [View.readCov_skip v (rows u inb) w L _ h]
  exact hz

/-- A first group's step leaves the bias plus the group's contribution. -/
theorem canon_first : View.canon (storesFirst v v' Q K V wo f) = plus Q K V wo f := by
  unfold storesFirst
  simp only [scratch0_read, scratch1_read, scratch2_read, scratch3_read]
  refine canon_rows Q K V wo f [_, _, _, _] [_] ?_ ?_
  · simp only [List.forall_mem_cons]
    refine ⟨stored_plus Q K V wo f _ _ _ _ fun x => ?_, stored_plus Q K V wo f _ _ _ _ fun x => ?_,
      stored_plus Q K V wo f _ _ _ _ fun x => ?_, stored_plus Q K V wo f _ _ _ _ fun x => ?_,
      fun p hp => absurd hp List.not_mem_nil⟩
    · exact read_other v _ _ _ _ (by decide) x _ (read_other v _ _ _ _ (by decide) x _
        (read_other v _ _ _ _ (by decide) x _ (read_filled f v _ _ x)))
    · exact read_other v _ _ _ _ (by decide) x _ (read_other v _ _ _ _ (by decide) x _ (read_filled f v _ _ x))
    · exact read_other v _ _ _ _ (by decide) x _ (read_filled f v _ _ x)
    · exact read_filled f v _ _ x
  · simp only [List.forall_mem_cons]
    exact ⟨⟨_, _, .tail _ (.tail _ (.tail _ (.head _)))⟩, ⟨_, _, .tail _ (.tail _ (.head _))⟩, ⟨_, _, .tail _ (.head _)⟩,
      ⟨_, _, .head _⟩, fun u hu => absurd hu List.not_mem_nil⟩

/-- A second group's step leaves what the block held plus the group's contribution. -/
theorem canon_second (m : v.ty.Contents (Elt Ideal)) (hm : v.read (Elt Ideal) m = f) :
    View.canon (storesSecond v v' Q K V wo m) = plus Q K V wo f := by
  subst hm
  unfold storesSecond
  simp only [scratch0_read, scratch1_read, scratch2_read, scratch3_read]
  refine canon_rows Q K V wo _ [_, _, _, _] [] ?_ ?_
  · simp only [List.forall_mem_cons]
    exact ⟨stored_plus Q K V wo _ _ _ _ _ (fun _ => rfl), stored_plus Q K V wo _ _ _ _ _ (fun _ => rfl), stored_plus Q K V wo _ _ _ _ _ fun _ => rfl,
      stored_plus Q K V wo _ _ _ _ _ (fun _ => rfl), fun p hp => absurd hp List.not_mem_nil⟩
  · simp only [List.forall_mem_cons]
    exact ⟨⟨_, _, .tail _ (.tail _ (.tail _ (.head _)))⟩, ⟨_, _, .tail _ (.tail _ (.head _))⟩, ⟨_, _, .tail _ (.head _)⟩,
      ⟨_, _, .head _⟩, fun u hu => absurd hu List.not_mem_nil⟩

end

/-- A load of a whole buffer at no offset returns its contents. -/
theorem loaded_eq {s : Shape} {e : EltTy} (a : Memref sig .tc .vmem s e) (ha : a.IsWhole) {off : Fin s.rank → ℕ}
    (inb : ∀ x, off x + s.size x ≤ s.size x) (h : off = fun _ => 0) (x : s.Idx → Elt Ideal e) : loaded a ha inb x = x := by
  unfold loaded
  rw [View.readAt_eq_ld, ha.read_unread, View.ld_unit_zero h]

theorem zeros2 : (![0, 0] : Fin 2 → ℕ) = fun _ => 0 := by decide
theorem zeros3 : (![0, 0, 0] : Fin 3 → ℕ) = fun _ => 0 := by decide

theorem out_first (c : Dev nD) (i : grid0.Coords)
    (arg2 : Memref sig .tc .vmem S1x2048x1024 .f32) (harg2 : arg2.IsWhole)
    (arg3 : Memref sig .tc .vmem S1024x512 .f32) (harg3 : arg3.IsWhole)
    (arg4 : Memref sig .tc .vmem S1024x512 .f32) (harg4 : arg4.IsWhole)
    (arg5 : Memref sig .tc .vmem S1024x512 .f32) (harg5 : arg5.IsWhole)
    (arg6 : Memref sig .tc .vmem S1x512 .f32) (harg6 : arg6.IsWhole)
    (arg7 : Memref sig .tc .vmem S1x512 .f32) (harg7 : arg7.IsWhole)
    (arg8 : Memref sig .tc .vmem S1x512 .f32) (harg8 : arg8.IsWhole)
    (arg9 : Memref sig .tc .vmem S512x1024 .f32) (harg9 : arg9.IsWhole)
    (arg10 : Memref sig .tc .vmem S1x1024 .f32) (harg10 : arg10.IsWhole)
    (arg11 : Memref sig .tc .vmem S1x2048x1024 .f32) (harg11 : arg11.IsWhole)
    (arg12 : Memref sig .tc .vmem S512x512 .bf16) (harg12 : arg12.IsWhole) (hc0 : cond0_0 i)
    (x0 : Vec Ideal S1x2048x1024 .f32) (x1 : Vec Ideal S1024x512 .f32) (x2 : Vec Ideal S1024x512 .f32) (x3 : Vec Ideal S1024x512 .f32) (x4 : Vec Ideal S1x512 .f32) (x5 : Vec Ideal S1x512 .f32) (x6 : Vec Ideal S1x512 .f32) (x7 : Vec Ideal S512x1024 .f32) (x8 : Vec Ideal S1x1024 .f32) :
    out0_A_9 (F := Ideal) c i arg2 harg2 arg3 harg3 arg4 harg4 arg5 harg5 arg6 harg6 arg7 harg7 arg8 harg8 arg9 harg9 arg10 harg10 arg11 harg11 arg12 harg12 hc0 x0 x1 x2 x3 x4 x5 x6 x7 x8
      = plus (k0_pay4 x0 x1 x4) (k0_pay5 x0 x2 x5) (k0_pay6 x0 x3 x6) (k0_pay7 x7) (k0_pay8 x8) := by
  unfold out0_A_9
  rw [View.read_writes_junk_eq_canon, stores_first, canon_first]
  rw [loaded_eq arg2 harg2 _ zeros3, loaded_eq arg3 harg3 _ zeros2, loaded_eq arg4 harg4 _ zeros2,
    loaded_eq arg5 harg5 _ zeros2, loaded_eq arg6 harg6 _ zeros2, loaded_eq arg7 harg7 _ zeros2, loaded_eq arg8 harg8 _ zeros2,
    loaded_eq arg9 harg9 _ zeros2, loaded_eq arg10 harg10 _ zeros2]

theorem out_second (c : Dev nD) (i : grid0.Coords)
    (arg2 : Memref sig .tc .vmem S1x2048x1024 .f32) (harg2 : arg2.IsWhole)
    (arg3 : Memref sig .tc .vmem S1024x512 .f32) (harg3 : arg3.IsWhole)
    (arg4 : Memref sig .tc .vmem S1024x512 .f32) (harg4 : arg4.IsWhole)
    (arg5 : Memref sig .tc .vmem S1024x512 .f32) (harg5 : arg5.IsWhole)
    (arg6 : Memref sig .tc .vmem S1x512 .f32) (harg6 : arg6.IsWhole)
    (arg7 : Memref sig .tc .vmem S1x512 .f32) (harg7 : arg7.IsWhole)
    (arg8 : Memref sig .tc .vmem S1x512 .f32) (harg8 : arg8.IsWhole)
    (arg9 : Memref sig .tc .vmem S512x1024 .f32) (harg9 : arg9.IsWhole)
    (arg10 : Memref sig .tc .vmem S1x1024 .f32) (harg10 : arg10.IsWhole)
    (arg11 : Memref sig .tc .vmem S1x2048x1024 .f32) (harg11 : arg11.IsWhole)
    (arg12 : Memref sig .tc .vmem S512x512 .bf16) (harg12 : arg12.IsWhole) (hc0 : ¬cond0_0 i)
    (x0 : Vec Ideal S1x2048x1024 .f32) (x1 : Vec Ideal S1024x512 .f32) (x2 : Vec Ideal S1024x512 .f32) (x3 : Vec Ideal S1024x512 .f32) (x4 : Vec Ideal S1x512 .f32) (x5 : Vec Ideal S1x512 .f32) (x6 : Vec Ideal S1x512 .f32) (x7 : Vec Ideal S512x1024 .f32) (x8 : Vec Ideal S1x1024 .f32) (xo9 : Vec Ideal S1x2048x1024 .f32) :
    out0_B_9 (F := Ideal) c i arg2 harg2 arg3 harg3 arg4 harg4 arg5 harg5 arg6 harg6 arg7 harg7 arg8 harg8 arg9 harg9 arg10 harg10 arg11 harg11 arg12 harg12 hc0 x0 x1 x2 x3 x4 x5 x6 x7 x8 xo9
      = plus (k0_pay4 x0 x1 x4) (k0_pay5 x0 x2 x5) (k0_pay6 x0 x3 x6) (k0_pay7 x7) xo9 := by
  unfold out0_B_9
  rw [View.read_writes_junk_eq_canon, stores_second, canon_second _ _ _ _ _ _ _ _ (harg11.read_unread xo9)]
  rw [loaded_eq arg2 harg2 _ zeros3, loaded_eq arg3 harg3 _ zeros2, loaded_eq arg4 harg4 _ zeros2,
    loaded_eq arg5 harg5 _ zeros2, loaded_eq arg6 harg6 _ zeros2, loaded_eq arg7 harg7 _ zeros2, loaded_eq arg8 harg8 _ zeros2,
    loaded_eq arg9 harg9 _ zeros2]

end Cert.KernelIdeal.Attend

end
-- ==== Proof.Inputs.lean ====
/-
  The blocks a grid point reads, at an element, in the launch's arguments: point `t` works on batch `t / 2` and on the heads'
  group `t % 2`, whose columns are 512 in each third of the projection's width.
-/
module

public import proofs.«01_k».proof.Proof.StepValue
public import proofs.«01_k».proof.Proof.Gen.KernelIdeal.Value

@[expose] public section

noncomputable section

namespace Cert.KernelIdeal.Attend

open Cert.KernelIdeal Cert.KernelIdeal.Gen Idealize.ShloMosaic Idealize.ShloMosaic.TcCoe Idealize.ShloMosaic.StableHlo Idealize.SL.Sem

/-- A whole array read through a rectangle, at a position of the rectangle. -/
theorem whole_slice_read {b : Ref sig .tc} (r : Rect b.ty.shape) (X : b.ty.Contents (Elt Ideal)) (j : r.shape.Idx) (i : b.ty.shape.Idx)
    (h : ∀ a, (i a).val = r.off a + r.stride a * (j a).val) : ((View.whole b).slice r).read (Elt Ideal) X j = X i := by
  rw [View.read_apply]
  exact congrArg X (funext fun a => Fin.ext (h a).symm)

variable (m : (ℓ : Loc nD τ sig) → Buf (Elt Ideal) ℓ) (c : Dev nD)

/-- The launch's arguments as arrays: the input, the fused projection's weights and biases, the output's weights and biases. -/
abbrev input : FVec Ideal S2x2048x1024 .f32 := m (c.tc.loc main_arg0)
@[inherit_doc input] abbrev weights : FVec Ideal S1024x3072 .f32 := m (c.tc.loc main_arg2)
@[inherit_doc input] abbrev biases : FVec Ideal S3072 .f32 := m (c.tc.loc main_arg3)
@[inherit_doc input] abbrev outWeights : FVec Ideal S1024x1024 .f32 := m (c.tc.loc main_arg4)
@[inherit_doc input] abbrev outBiases : FVec Ideal S1024 .f32 := m (c.tc.loc main_arg5)

/-- The projection biases as the launch finds them: the argument, its first third scaled by 1/8. -/
theorem bias_found (z : Fin 1) (n : Fin 3072) :
    (V m c main_call0_v4 : FVec Ideal S1x3072 .f32) (ix2 z n) = biases m c (ix1 n)
      * if n.val < 1024 then Ideal.ofBits .f32 0x3E000000#32 else Ideal.ofBits .f32 0x3F800000#32 := by
  unfold V
  after_results
  simp only [TRef.toBuf, TRef.ofBuf, cast_eq]
  pointwise
  rfl

/-- The output biases as the launch finds them. -/
theorem outBias_found (z : Fin 1) (n : Fin 1024) :
    (V m c main_call0_v5 : FVec Ideal S1x1024 .f32) (ix2 z n) = outBiases m c (ix1 n) := by
  unfold V
  after_results
  simp only [TRef.toBuf, TRef.ofBuf, cast_eq]
  pointwise

/-- Where each window's block stands at point `t`, in blocks. -/
theorem index_eq (t : Fin cfg0.N) :
    (win0_0.index t 0 = t.val / 2 ∧ win0_0.index t 1 = 0 ∧ win0_0.index t 2 = 0)
    ∧ (win0_1.index t 0 = 0 ∧ win0_1.index t 1 = t.val % 2) ∧ (win0_2.index t 0 = 0 ∧ win0_2.index t 1 = 2 + t.val % 2)
    ∧ (win0_3.index t 0 = 0 ∧ win0_3.index t 1 = 4 + t.val % 2) ∧ (win0_4.index t 0 = 0 ∧ win0_4.index t 1 = t.val % 2)
    ∧ (win0_5.index t 0 = 0 ∧ win0_5.index t 1 = 2 + t.val % 2) ∧ (win0_6.index t 0 = 0 ∧ win0_6.index t 1 = 4 + t.val % 2)
    ∧ (win0_7.index t 0 = t.val % 2 ∧ win0_7.index t 1 = 0) ∧ (win0_8.index t 0 = 0 ∧ win0_8.index t 1 = 0)
    ∧ (win0_9.index t 0 = t.val / 2 ∧ win0_9.index t 1 = 0 ∧ win0_9.index t 2 = 0) := by
  rcases fin_N0 t with rfl | rfl | rfl | rfl <;> decide

theorem t_lt (t : Fin cfg0.N) : t.val < 4 := lt_of_lt_of_eq t.isLt N_0

/-- The batch a point works on. -/
def batch (t : Fin cfg0.N) : Fin 2 := ⟨t.val / 2, by have := t_lt t; omega⟩

/-- Column `e` of a point's group in third `p` of the projection. -/
def groupCol (t : Fin cfg0.N) (p : Fin 3) (e : Fin 512) : Fin 3072 := ⟨1024 * p.val + 512 * (t.val % 2) + e.val, by omega⟩

/-- The queries' biases are scaled, -/
theorem bias_query (t : Fin cfg0.N) (z : Fin 1) (e : Fin 512) :
    (V m c main_call0_v4 : FVec Ideal S1x3072 .f32) (ix2 z (groupCol t 0 e))
      = biases m c (ix1 (groupCol t 0 e)) * Ideal.ofBits .f32 0x3E000000#32 := by
  rw [bias_found, if_pos]
  show 1024 * 0 + 512 * (t.val % 2) + e.val < 1024
  omega

/-- and the keys' and values' are not. -/
theorem bias_other (t : Fin cfg0.N) (p : Fin 3) (hp : 1 ≤ p.val) (z : Fin 1) (e : Fin 512) :
    (V m c main_call0_v4 : FVec Ideal S1x3072 .f32) (ix2 z (groupCol t p e)) = biases m c (ix1 (groupCol t p e)) := by
  rw [bias_found, if_neg, Ideal.ofBits_one_f32, mul_one]
  show ¬1024 * p.val + 512 * (t.val % 2) + e.val < 1024
  omega

theorem read_input (t : Fin cfg0.N) (z : Fin 1) (r : Fin 2048) (k : Fin 1024) :
    iblk m c 0 t (ix3 z r k) = input m c (ix3 (batch t) r k) := by
  obtain ⟨⟨h0, h1, h2⟩, -⟩ := index_eq t
  refine (whole_slice_read (b := main_arg0) (win0_0.rect t) _ _ (ix3 (batch t) r k) fun a => ?_).trans (congrFun (V_main_arg0 m c) _)
  match a with
  | ⟨0, _⟩ => show t.val / 2 = win0_0.index t 0 * 1 + 1 * z.val; omega
  | ⟨1, _⟩ => show r.val = win0_0.index t 1 * 2048 + 1 * r.val; omega
  | ⟨2, _⟩ => show k.val = win0_0.index t 2 * 1024 + 1 * k.val; omega

theorem read_wq (t : Fin cfg0.N) (k : Fin 1024) (e : Fin 512) :
    iblk m c 1 t (ix2 k e) = weights m c (ix2 k (groupCol t 0 e)) := by
  obtain ⟨-, ⟨h0, h1⟩, -⟩ := index_eq t
  refine (whole_slice_read (b := main_arg2) (win0_1.rect t) _ _ (ix2 k (groupCol t 0 e)) (Fin.forall_fin_two.mpr ⟨?_, ?_⟩)).trans
    (congrFun (V_main_arg2 m c) _)
  · show k.val = win0_1.index t 0 * 1024 + 1 * k.val; omega
  · show 1024 * 0 + 512 * (t.val % 2) + e.val = win0_1.index t 1 * 512 + 1 * e.val; omega

theorem read_wk (t : Fin cfg0.N) (k : Fin 1024) (e : Fin 512) :
    iblk m c 2 t (ix2 k e) = weights m c (ix2 k (groupCol t 1 e)) := by
  obtain ⟨-, -, ⟨h0, h1⟩, -⟩ := index_eq t
  refine (whole_slice_read (b := main_arg2) (win0_2.rect t) _ _ (ix2 k (groupCol t 1 e)) (Fin.forall_fin_two.mpr ⟨?_, ?_⟩)).trans
    (congrFun (V_main_arg2 m c) _)
  · show k.val = win0_2.index t 0 * 1024 + 1 * k.val; omega
  · show 1024 * 1 + 512 * (t.val % 2) + e.val = win0_2.index t 1 * 512 + 1 * e.val; omega

theorem read_wv (t : Fin cfg0.N) (k : Fin 1024) (e : Fin 512) :
    iblk m c 3 t (ix2 k e) = weights m c (ix2 k (groupCol t 2 e)) := by
  obtain ⟨-, -, -, ⟨h0, h1⟩, -⟩ := index_eq t
  refine (whole_slice_read (b := main_arg2) (win0_3.rect t) _ _ (ix2 k (groupCol t 2 e)) (Fin.forall_fin_two.mpr ⟨?_, ?_⟩)).trans
    (congrFun (V_main_arg2 m c) _)
  · show k.val = win0_3.index t 0 * 1024 + 1 * k.val; omega
  · show 1024 * 2 + 512 * (t.val % 2) + e.val = win0_3.index t 1 * 512 + 1 * e.val; omega

theorem read_bq (t : Fin cfg0.N) (z : Fin 1) (e : Fin 512) :
    iblk m c 4 t (ix2 z e) = biases m c (ix1 (groupCol t 0 e)) * Ideal.ofBits .f32 0x3E000000#32 := by
  obtain ⟨-, -, -, -, ⟨h0, h1⟩, -⟩ := index_eq t
  refine (whole_slice_read (b := main_call0_v4) (win0_4.rect t) _ _ (ix2 z (groupCol t 0 e)) (Fin.forall_fin_two.mpr ⟨?_, ?_⟩)).trans
    (bias_query m c t z e)
  · show z.val = win0_4.index t 0 * 1 + 1 * z.val; omega
  · show 1024 * 0 + 512 * (t.val % 2) + e.val = win0_4.index t 1 * 512 + 1 * e.val; omega

theorem read_bk (t : Fin cfg0.N) (z : Fin 1) (e : Fin 512) :
    iblk m c 5 t (ix2 z e) = biases m c (ix1 (groupCol t 1 e)) := by
  obtain ⟨-, -, -, -, -, ⟨h0, h1⟩, -⟩ := index_eq t
  refine (whole_slice_read (b := main_call0_v4) (win0_5.rect t) _ _ (ix2 z (groupCol t 1 e)) (Fin.forall_fin_two.mpr ⟨?_, ?_⟩)).trans
    (bias_other m c t 1 (by decide) z e)
  · show z.val = win0_5.index t 0 * 1 + 1 * z.val; omega
  · show 1024 * 1 + 512 * (t.val % 2) + e.val = win0_5.index t 1 * 512 + 1 * e.val; omega

theorem read_bv (t : Fin cfg0.N) (z : Fin 1) (e : Fin 512) :
    iblk m c 6 t (ix2 z e) = biases m c (ix1 (groupCol t 2 e)) := by
  obtain ⟨-, -, -, -, -, -, ⟨h0, h1⟩, -⟩ := index_eq t
  refine (whole_slice_read (b := main_call0_v4) (win0_6.rect t) _ _ (ix2 z (groupCol t 2 e)) (Fin.forall_fin_two.mpr ⟨?_, ?_⟩)).trans
    (bias_other m c t 2 (by decide) z e)
  · show z.val = win0_6.index t 0 * 1 + 1 * z.val; omega
  · show 1024 * 2 + 512 * (t.val % 2) + e.val = win0_6.index t 1 * 512 + 1 * e.val; omega

theorem read_wo (t : Fin cfg0.N) (e : Fin 512) (j : Fin 1024) :
    iblk m c 7 t (ix2 e j) = outWeights m c (ix2 ⟨512 * (t.val % 2) + e.val, by omega⟩ j) := by
  obtain ⟨-, -, -, -, -, -, -, ⟨h0, h1⟩, -⟩ := index_eq t
  refine (whole_slice_read (b := main_arg4) (win0_7.rect t) _ _ (ix2 ⟨512 * (t.val % 2) + e.val, by omega⟩ j)
    (Fin.forall_fin_two.mpr ⟨?_, ?_⟩)).trans (congrFun (V_main_arg4 m c) _)
  · show 512 * (t.val % 2) + e.val = win0_7.index t 0 * 512 + 1 * e.val; omega
  · show j.val = win0_7.index t 1 * 1024 + 1 * j.val; omega

theorem read_bo (t : Fin cfg0.N) (z : Fin 1) (j : Fin 1024) :
    iblk m c 8 t (ix2 z j) = outBiases m c (ix1 j) := by
  obtain ⟨-, -, -, -, -, -, -, -, ⟨h0, h1⟩, -⟩ := index_eq t
  refine (whole_slice_read (b := main_call0_v5) (win0_8.rect t) _ _ (ix2 z j)
    (Fin.forall_fin_two.mpr ⟨?_, ?_⟩)).trans (outBias_found m c z j)
  · show z.val = win0_8.index t 0 * 1 + 1 * z.val; omega
  · show j.val = win0_8.index t 1 * 1024 + 1 * j.val; omega

end Cert.KernelIdeal.Attend

end
-- ==== Proof.Attention.lean ====
/-
  Causal multi-head attention over the extended reals, element by element: the words both programs are read in.
-/
module

public import Idealize.ShloMosaic.Lib.Pointwise

@[expose] public section

noncomputable section

namespace Cert.Attention

open Idealize.ShloMosaic

/-- The fused projection at batch `b`, token `t`, column `n`: queries in the first third of the columns, then keys, then
    values; in each third head `h` has the 64 columns from `64 h`. -/
def proj (x : FVec Ideal ⟨3, ![2, 2048, 1024]⟩ .f32) (W : FVec Ideal ⟨2, ![1024, 3072]⟩ .f32) (β : FVec Ideal ⟨1, ![3072]⟩ .f32)
    (b : Fin 2) (t : Fin 2048) (n : Fin 3072) : EReal :=
  (∑ k : Fin 1024, x (ix3 b t k) * W (ix2 k n)) + β (ix1 n)

/-- Column `d` of head `h` in third `p` of the projection. -/
def column (p : Fin 3) (h : Fin 16) (d : Fin 64) : Fin 3072 := ⟨1024 * p.val + 64 * h.val + d.val, by omega⟩

section

variable (x : FVec Ideal ⟨3, ![2, 2048, 1024]⟩ .f32) (W : FVec Ideal ⟨2, ![1024, 3072]⟩ .f32) (β : FVec Ideal ⟨1, ![3072]⟩ .f32)

/-- Head `h`'s score of the query at token `t` against the key at token `s`: their product over the root of the width 64. -/
def score (b : Fin 2) (h : Fin 16) (t s : Fin 2048) : EReal :=
  (∑ d : Fin 64, proj x W β b t (column 0 h d) * proj x W β b s (column 1 h d)) * ((1 / 8 : ℝ) : EReal)

/-- The weight of key `s` for query `t`, before the division by the row's total: none for a key after the query. -/
def expScore (b : Fin 2) (h : Fin 16) (t s : Fin 2048) : EReal :=
  if s.val ≤ t.val then Ideal.exp (score x W β b h t s) else 0

/-- Head `h`'s output at token `t`: the weighted mean of the values. -/
def head (b : Fin 2) (h : Fin 16) (t : Fin 2048) (d : Fin 64) : EReal :=
  (∑ s, expScore x W β b h t s * proj x W β b s (column 2 h d)) * Ideal.div 1 (∑ s, expScore x W β b h t s)

/-- The heads' outputs side by side, then the output projection. -/
def output (wo : FVec Ideal ⟨2, ![1024, 1024]⟩ .f32) (bo : FVec Ideal ⟨1, ![1024]⟩ .f32) :
    FVec Ideal ⟨3, ![2, 2048, 1024]⟩ .f32 := fun i =>
  (∑ n : Fin 1024, head x W β (i 0) ⟨n.val / 64, by omega⟩ (i 1) ⟨n.val % 64, Nat.mod_lt _ (by decide)⟩ * wo (ix2 n (i 2)))
    + bo (ix1 (i 2))

end

end Cert.Attention

end
-- ==== Proof.Consts.lean ====
/-
  The floating-point constants of the two programs, as extended reals.
-/
module

public import Idealize.ShloMosaic.Lib.IdealHost

@[expose] public section

noncomputable section

namespace Cert.Attention

open Idealize.ShloMosaic

/-- The kernel's scale 0.125. -/
theorem eighth_f32 : Ideal.ofBits .f32 0x3E000000#32 = ((1 / 8 : ℝ) : EReal) := by
  simp [Ideal.ofBits, Ideal.ieee, -EReal.coe_mul]; norm_num

/-- The head's width 64, of which the reference takes the root. -/
theorem sixtyFour_f32 : Ideal.ofBits .f32 0x42800000#32 = ((64 : ℝ) : EReal) := by
  simp [Ideal.ofBits, Ideal.ieee, -EReal.coe_mul]; norm_num

theorem bot_f32 : Ideal.ofBits .f32 0xFF800000#32 = ⊥ := by
  simp [Ideal.ofBits, Ideal.ieee]

theorem top_f32 : Ideal.ofBits .f32 0x7F800000#32 = ⊤ := by
  simp [Ideal.ofBits, Ideal.ieee]

/-- The reference's scale `1 / √64` is the same 1/8. -/
theorem scale_eq : Ideal.div 1 (Ideal.sqrt (Ideal.ofBits .f32 0x42800000#32)) = ((1 / 8 : ℝ) : EReal) := by
  have h : Real.sqrt 64 = 8 := by
    rw [show (64 : ℝ) = 8 ^ 2 by norm_num]
    exact Real.sqrt_sq (by norm_num)
  rw [sixtyFour_f32, Ideal.sqrt_coe, if_neg (by norm_num), h, Ideal.div_coe (by norm_num : (8 : ℝ) ≠ 0), one_mul]

end Cert.Attention

end
-- ==== Proof.KernelValue.lean ====
/-
  The kernel's result at an element: the bias, the first group's contribution and the second's, in the launch's arguments.
-/
module

public import proofs.«01_k».proof.Proof.Inputs
public import proofs.«01_k».proof.Proof.Attention
public import proofs.«01_k».proof.Proof.Consts

@[expose] public section

noncomputable section

namespace Cert.KernelIdeal.Attend

open Cert.KernelIdeal Cert.KernelIdeal.Gen Cert.Attention Idealize.ShloMosaic Idealize.ShloMosaic.TcCoe Idealize.SL.Sem

section

variable (x : FVec Ideal S1x2048x1024 .f32) (w : FVec Ideal S1024x512 .f32) (β : FVec Ideal S1x512 .f32) (r : Fin 2048) (e : Fin 512)

theorem queries_apply : (k0_pay4 (F := Ideal) x w β (ix2 r e) : EReal)
    = (∑ k : Fin 1024, x (ix3 0 r k) * (w (ix2 k e) * Ideal.ofBits .f32 0x3E000000#32)) + β (ix2 0 e) := by
  pointwise [k0_pay4, k0_pay3]

theorem keys_apply : (k0_pay5 (F := Ideal) x w β (ix2 r e) : EReal) = (∑ k : Fin 1024, x (ix3 0 r k) * w (ix2 k e)) + β (ix2 0 e) := by
  pointwise [k0_pay5, k0_pay3]

theorem values_apply : (k0_pay6 (F := Ideal) x w β (ix2 r e) : EReal) = (∑ k : Fin 1024, x (ix3 0 r k) * w (ix2 k e)) + β (ix2 0 e) := by
  pointwise [k0_pay6, k0_pay3]

theorem bias_apply (b : FVec Ideal S1x1024 .f32) (z : Fin 1) (j : Fin 1024) : k0_pay8 b (ix3 z r j) = b (ix2 0 j) := by
  pointwise [k0_pay8]

end

variable (m : (ℓ : Loc nD τ sig) → Buf (Elt Ideal) ℓ) (c : Dev nD)

/-- The queries, keys, values and slab of output weights that point `t` works with. -/
def queries (t : Fin cfg0.N) : FVec Ideal S2048x512 .bf16 := k0_pay4 (iblk m c 0 t) (iblk m c 1 t) (iblk m c 4 t)
@[inherit_doc queries] def keys (t : Fin cfg0.N) : FVec Ideal S2048x512 .bf16 := k0_pay5 (iblk m c 0 t) (iblk m c 2 t) (iblk m c 5 t)
@[inherit_doc queries] def values (t : Fin cfg0.N) : FVec Ideal S2048x512 .bf16 := k0_pay6 (iblk m c 0 t) (iblk m c 3 t) (iblk m c 6 t)
@[inherit_doc queries] def slab (t : Fin cfg0.N) : FVec Ideal S512x1024 .bf16 := k0_pay7 (iblk m c 7 t)

theorem queries_eq (t : Fin cfg0.N) (r : Fin 2048) (e : Fin 512) : queries m c t (ix2 r e)
    = (∑ k : Fin 1024, input m c (ix3 (batch t) r k) * (weights m c (ix2 k (groupCol t 0 e)) * ((1 / 8 : ℝ) : EReal)))
      + biases m c (ix1 (groupCol t 0 e)) * ((1 / 8 : ℝ) : EReal) := by
  unfold queries
  rw [queries_apply, read_bq, eighth_f32]
  simp only [read_input, read_wq]

theorem keys_eq (t : Fin cfg0.N) (r : Fin 2048) (e : Fin 512) :
    keys m c t (ix2 r e) = proj (input m c) (weights m c) (biases m c) (batch t) r (groupCol t 1 e) := by
  unfold keys proj
  rw [keys_apply, read_bk]
  simp only [read_input, read_wk]

theorem values_eq (t : Fin cfg0.N) (r : Fin 2048) (e : Fin 512) :
    values m c t (ix2 r e) = proj (input m c) (weights m c) (biases m c) (batch t) r (groupCol t 2 e) := by
  unfold values proj
  rw [values_apply, read_bv]
  simp only [read_input, read_wv]

theorem slab_eq (t : Fin cfg0.N) (e : Fin 512) (j : Fin 1024) :
    slab m c t (ix2 e j) = outWeights m c (ix2 ⟨512 * (t.val % 2) + e.val, by omega⟩ j) := read_wo m c t e j

/-- The contribution of the group point `t` works on. -/
abbrev contributed (t : Fin cfg0.N) (r : Fin 2048) (j : Fin 1024) : EReal :=
  contribution (queries m c t) (keys m c t) (values m c t) (slab m c t) r j

/-- After a batch's first point the output block is the bias and the first group's contribution, -/
theorem after_first (t : Fin cfg0.N) (h : t.val % 2 = 0) (z : Fin 1) (r : Fin 2048) (j : Fin 1024) :
    outsAt0 m c t.val t.isLt (ix3 z r j) = outBiases m c (ix1 j) + contributed m c t r j := by
  rw [outsAt0_A m c t h, out_first]
  show k0_pay8 (iblk m c 8 t) (ix3 z r j) + _ = _
  rw [bias_apply, read_bo]
  rfl

/-- and after its second point the second group's contribution is added. -/
theorem after_second (t : Fin cfg0.N) (h : ¬t.val % 2 = 0) (z : Fin 1) (r : Fin 2048) (j : Fin 1024) :
    outsAt0 m c t.val t.isLt (ix3 z r j) = outBiases m c (ix1 j)
      + contributed m c ⟨t.val - 1, by omega⟩ r j + contributed m c t r j := by
  rw [outsAt0_B m c t h, out_second]
  show outsAt0 m c (t.val - 1) _ (ix3 z r j) + _ = _
  rw [after_first m c ⟨t.val - 1, by omega⟩ (by show (t.val - 1) % 2 = 0; omega) z r j]
  rfl

/-- The point that works on group `g` of batch `b`. -/
def point (b g : Fin 2) : Fin cfg0.N := ⟨2 * b.val + g.val, lt_of_lt_of_eq (by omega) N_0.symm⟩

/-- The result: the bias and both groups' contributions. -/
def result : FVec Ideal S2x2048x1024 .f32 := fun i =>
  outBiases m c (ix1 (i 2)) + contributed m c (point (i 0) 0) (i 1) (i 2) + contributed m c (point (i 0) 1) (i 1) (i 2)

/-- What a batch's second point writes back is its block of the result. -/
theorem flushed_eq (t : Fin cfg0.N) (hf : (cfg0.win 9).flush t = true) :
    (dats m 0 c).flushed 9 t = ((cfg0.win 9).blk t).view.read (Elt Ideal) (result m c) := by
  have ho : t.val % 2 = 1 := (flush0_9 t).mp hf
  have ht := t_lt t
  obtain ⟨-, -, -, -, -, -, -, -, -, h0, h1, h2⟩ := index_eq t
  rw [Value.flushed9]
  funext y
  obtain ⟨z, r, j, rfl⟩ : ∃ (z : Fin 1) (r : Fin 2048) (j : Fin 1024), y = ix3 z r j := ⟨y 0, y 1, y 2, eq_ix3 y⟩
  refine Eq.trans ?_ (whole_slice_read (b := main_v0) (win0_9.rect t) (result m c) (ix3 z r j) (ix3 (batch t) r j) fun a => ?_).symm
  · show outsAt0 m c t.val t.isLt (ix3 z r j) = _
    rw [after_second m c t (by omega)]
    have e0 : point (batch t) 0 = ⟨t.val - 1, by omega⟩ := Fin.ext (show 2 * (t.val / 2) + 0 = t.val - 1 by omega)
    have e1 : point (batch t) 1 = t := Fin.ext (show 2 * (t.val / 2) + 1 = t.val by omega)
    show _ = outBiases m c (ix1 j) + contributed m c (point (batch t) 0) r j + contributed m c (point (batch t) 1) r j
    rw [e0, e1]
  · match a with
    | ⟨0, _⟩ => show t.val / 2 = win0_9.index t 0 * 1 + 1 * z.val; omega
    | ⟨1, _⟩ => show r.val = win0_9.index t 1 * 2048 + 1 * r.val; omega
    | ⟨2, _⟩ => show j.val = win0_9.index t 2 * 1024 + 1 * j.val; omega

/-- The output array after the run. -/
theorem final_eq : (dats m 0 c).arrAt 9 cfg0.N = result m c :=
  (dats m 0 c).arrAt_eq_of_cover 9 (result m c) (flushed_eq m c) fun i => by
    have i0 : (i 0).val < 2 := (i 0).isLt
    have i1 : (i 1).val < 2048 := (i 1).isLt
    have i2 : (i 2).val < 1024 := (i 2).isLt
    refine ⟨point (i 0) 1, (flush0_9 _).mpr (show (2 * (i 0).val + 1) % 2 = 1 by omega), ?_⟩
    obtain ⟨-, -, -, -, -, -, -, -, -, h0, h1, h2⟩ := index_eq (point (i 0) 1)
    have e : (point (i 0) 1).val / 2 = (i 0).val := show (2 * (i 0).val + 1) / 2 = (i 0).val by omega
    show i ∈ ((View.whole main_v0).slice (win0_9.rect (point (i 0) 1))).set
    rw [View.set_slice_whole, Rect.mem_set_unit]
    intro a
    match a with
    | ⟨0, _⟩ =>
      show win0_9.index (point (i 0) 1) 0 * 1 ≤ (i 0).val ∧ (i 0).val < win0_9.index (point (i 0) 1) 0 * 1 + 1
      omega
    | ⟨1, _⟩ =>
      show win0_9.index (point (i 0) 1) 1 * 2048 ≤ (i 1).val ∧ (i 1).val < win0_9.index (point (i 0) 1) 1 * 2048 + 2048
      omega
    | ⟨2, _⟩ =>
      show win0_9.index (point (i 0) 1) 2 * 1024 ≤ (i 2).val ∧ (i 2).val < win0_9.index (point (i 0) 1) 2 * 1024 + 1024
      omega

end Cert.KernelIdeal.Attend

end
-- ==== Proof.Reference.lean ====
/-
  The reference's result at an element. Its operations are cut in stages — the projection, the masked scores, the softmax, the
  heads' outputs and the output projection — and each stage is read at an index.
-/
module

public import proofs.«01_k».proof.Proof.Gen.ReferenceIdeal.Run
public import proofs.«01_k».proof.Proof.Attention
public import proofs.«01_k».proof.Proof.Consts

@[expose] public section

noncomputable section

namespace Cert.ReferenceIdeal.Attend

open Cert.ReferenceIdeal Cert.ReferenceIdeal.Gen Cert.Attention Idealize.ShloMosaic Idealize.ShloMosaic.TcCoe

section

variable (x : FVec Ideal S2x2048x1024 .f32) (W : FVec Ideal S1024x3072 .f32) (β : FVec Ideal S3072 .f32)

/-- Queries, keys and values of every head, along the first axis. -/
def qkv : FVec Ideal S3x2x16x2048x64 .f32 :=
  transpose S3x2x16x2048x64 [2, 0, 3, 1, 4] (shapeCast S2x2048x3x16x64
    (addf (Host.dotGeneral (F := Ideal) dot_S2x2048x1024_S1024x3072_S2x2048x3072_2_0_01_1_n_n none x W)
      (broadcastInDim S2x2048x3072 ![0, 1, 2] bcast_S1x1x3072_S2x2048x3072_0_1_2
        (broadcastInDim S1x1x3072 ![2] bcast_S3072_S1x1x3072_2 β)))
    shapeCasts_S2x2048x3072_S2x2048x3x16x64) transposes_S2x2048x3x16x64_S3x2x16x2048x64_2_0_3_1_4

theorem qkv_apply (p : Fin 3) (b : Fin 2) (h : Fin 16) (t : Fin 2048) (d : Fin 64) :
    qkv x W β (ix5 p b h t d) = proj x W β b t (column p h d) := by
  unfold proj column
  pointwise [qkv]
  simp only [Nat.mul_comm _ 1024, Nat.mul_comm _ 64]

/-- One of the three. -/
def third (p : Fin 3) (hs : S3x2x16x2048x64.Slices ![p.val, 0, 0, 0, 0] S1x2x16x2048x64) : FVec Ideal S2x16x2048x64 .f32 :=
  shapeCast S2x16x2048x64 (extractStridedSlice S1x2x16x2048x64 ![p.val, 0, 0, 0, 0] (qkv x W β) hs)
    shapeCasts_S1x2x16x2048x64_S2x16x2048x64

theorem third_apply (p : Fin 3) (hs : S3x2x16x2048x64.Slices ![p.val, 0, 0, 0, 0] S1x2x16x2048x64) (b : Fin 2) (h : Fin 16)
    (t : Fin 2048) (d : Fin 64) : third x W β p hs (ix4 b h t d) = proj x W β b t (column p h d) := by
  rw [← qkv_apply]
  pointwise [third]

end

/-- The scaled scores, −∞ where the mask is 0. -/
def scores (mask : IVec S1x1x2048x2048 32) (q k : FVec Ideal S2x16x2048x64 .f32) : FVec Ideal S2x16x2048x2048 .f32 :=
  select (broadcastInDim S2x16x2048x2048 ![0, 1, 2, 3] bcast_S1x1x2048x2048_S2x16x2048x2048_0_1_2_3
      (cmpi .eq mask (broadcastInDim S1x1x2048x2048 ![] bcast_S_S1x1x2048x2048 (constantI S_ 32 0#32))))
    (broadcastInDim S2x16x2048x2048 ![] bcast_S_S2x16x2048x2048 (id (constant S_ .f32 0xFF800000#32)))
    (mulf (Host.dotGeneral (F := Ideal) dot_S2x16x2048x64_S2x16x2048x64_S2x16x2048x2048_3_3_2_2_01_01 none q k)
      (broadcastInDim S2x16x2048x2048 ![] bcast_S_S2x16x2048x2048
        (Host.divf (constant S_ .f32 0x3F800000#32) (Host.sqrt (constant S_ .f32 0x42800000#32)))))

theorem scores_apply (mask : IVec S1x1x2048x2048 32) (q k : FVec Ideal S2x16x2048x64 .f32) (b : Fin 2) (h : Fin 16)
    (t s : Fin 2048) : scores mask q k (ix4 b h t s) = if mask (ix4 0 0 t s) = 0#32 then ⊥ else
      (∑ d : Fin 64, q (ix4 b h t d) * k (ix4 b h s d)) * ((1 / 8 : ℝ) : EReal) := by
  pointwise [scores]
  rw [scale_eq]
  by_cases hm : mask (ix4 0 0 t s) = 0#32
  · simp [hm, Scalar.select, IntOp.cmpi, constant, bot_f32]
  · simp [hm, Scalar.select, IntOp.cmpi, beq_eq_false_iff_ne.mpr hm]

/-- The larger of a row's number and a constant. -/
theorem atLeast (z : FVec Ideal S_ .f32) (r : FVec Ideal S2x16x2048 .f32) (i : S2x16x2048.Idx) :
    maximumf (broadcastInDim S2x16x2048 ![] bcast_S_S2x16x2048 z) r i = max (z ix0) (r i) := by
  pointwise

/-- A row's maximum from a starting value. -/
theorem fold_row (a : FVec Ideal S2x16x2048x2048 .f32) (z : FVec Ideal S_ .f32) (b : Fin 2) (h : Fin 16) (t : Fin 2048) :
    Host.reduce FloatOps.maximumf a z reducesTo_S2x16x2048x2048_S2x16x2048_d3 h_S_ (ix3 b h t)
      = Finset.univ.fold max (z ix0) fun s => a (ix4 b h t s) := by
  pointwise
  rw [show Shape.Idx.first h_S_ = ix0 from funext fun a => a.elim0]

/-- Each row's largest score. -/
def rowMax (a : FVec Ideal S2x16x2048x2048 .f32) : FVec Ideal S2x16x2048 .f32 :=
  maximumf (broadcastInDim S2x16x2048 ![] bcast_S_S2x16x2048 (constant S_ .f32 0xFF800000#32))
    (Host.reduce FloatOps.maximumf a (constant S_ .f32 0xFF800000#32) reducesTo_S2x16x2048x2048_S2x16x2048_d3 h_S_)

theorem rowMax_apply (a : FVec Ideal S2x16x2048x2048 .f32) (b : Fin 2) (h : Fin 16) (t : Fin 2048) :
    rowMax a (ix3 b h t) = Finset.univ.fold max ⊥ fun s' => a (ix4 b h t s') := by
  unfold rowMax
  rw [atLeast, fold_row]
  show max (Ideal.ofBits .f32 0xFF800000#32) (Finset.univ.fold max (Ideal.ofBits .f32 0xFF800000#32) _) = _
  rw [bot_f32, max_bot_left]

/-- An array of one number per row, repeated along the row. -/
def along (r : FVec Ideal S2x16x2048 .f32) : FVec Ideal S2x16x2048x2048 .f32 :=
  broadcastInDim S2x16x2048x2048 ![0, 1, 2, 3] bcast_S2x16x2048x1_S2x16x2048x2048_0_1_2_3
    (broadcastInDim S2x16x2048x1 ![0, 1, 2] bcast_S2x16x2048_S2x16x2048x1_0_1_2 r)

theorem along_apply (r : FVec Ideal S2x16x2048 .f32) (b : Fin 2) (h : Fin 16) (t s : Fin 2048) :
    along r (ix4 b h t s) = r (ix3 b h t) := by
  pointwise [along]

/-- Each row's exponentials of the scores less the row's largest. -/
def exps (a : FVec Ideal S2x16x2048x2048 .f32) : FVec Ideal S2x16x2048x2048 .f32 :=
  Host.exp (subf a (along (rowMax a)))

theorem exps_apply (a : FVec Ideal S2x16x2048x2048 .f32) (b : Fin 2) (h : Fin 16) (t s : Fin 2048) :
    exps a (ix4 b h t s) = Ideal.exp (a (ix4 b h t s) - Finset.univ.fold max ⊥ fun s' => a (ix4 b h t s')) := by
  rw [← rowMax_apply, ← along_apply (rowMax a) b h t s]
  unfold exps
  generalize along (rowMax a) = r
  rfl
/-- The exponentials over their row's total. -/
def softmax (a : FVec Ideal S2x16x2048x2048 .f32) : FVec Ideal S2x16x2048x2048 .f32 :=
  Host.divf (exps a)
    (along (Host.reduceAdd (exps a) (constant S_ .f32 0x00000000#32) reducesTo_S2x16x2048x2048_S2x16x2048_d3 h_S_))

theorem softmax_apply (a : FVec Ideal S2x16x2048x2048 .f32) (b : Fin 2) (h : Fin 16) (t s : Fin 2048) :
    softmax a (ix4 b h t s) = Ideal.div (exps a (ix4 b h t s)) (∑ s', exps a (ix4 b h t s')) := by
  pointwise [softmax, along]

/-- The heads' outputs side by side, then the output projection. -/
def out (P : FVec Ideal S2x16x2048x2048 .f32) (v : FVec Ideal S2x16x2048x64 .f32) (wo : FVec Ideal S1024x1024 .f32)
    (bo : FVec Ideal S1024 .f32) : FVec Ideal S2x2048x1024 .f32 :=
  addf (Host.dotGeneral (F := Ideal) dot_S2x2048x1024_S1024x1024_S2x2048x1024_2_0_01_1_n_n none
      (shapeCast S2x2048x1024 (transpose S2x2048x16x64 [0, 2, 1, 3]
        (Host.dotGeneral (F := Ideal) dot_S2x16x2048x2048_S2x16x2048x64_S2x16x2048x64_3_2_2_3_01_01 none P v)
        transposes_S2x16x2048x64_S2x2048x16x64_0_2_1_3) shapeCasts_S2x2048x16x64_S2x2048x1024) wo)
    (broadcastInDim S2x2048x1024 ![0, 1, 2] bcast_S1x1x1024_S2x2048x1024_0_1_2
      (broadcastInDim S1x1x1024 ![2] bcast_S1024_S1x1x1024_2 bo))

theorem out_apply (P : FVec Ideal S2x16x2048x2048 .f32) (v : FVec Ideal S2x16x2048x64 .f32) (wo : FVec Ideal S1024x1024 .f32)
    (bo : FVec Ideal S1024 .f32) (b : Fin 2) (t : Fin 2048) (j : Fin 1024) :
    out P v wo bo (ix3 b t j) = (∑ n : Fin 1024, (∑ s : Fin 2048, P (ix4 b ⟨n.val / 64, by omega⟩ t s)
      * v (ix4 b ⟨n.val / 64, by omega⟩ s ⟨n.val % 64, Nat.mod_lt _ (by decide)⟩)) * wo (ix2 n j)) + bo (ix1 j) := by
  pointwise [out]

/-- The reference's result is these stages. -/
theorem result_eq (m : (ℓ : Loc nD τ sig) → Buf (Elt Ideal) ℓ) (c : Dev nD) :
    Value.res_main_v37 m c = out (softmax (scores (m (c.tc.loc main_arg1))
        (third (m (c.tc.loc main_arg0)) (m (c.tc.loc main_arg2)) (m (c.tc.loc main_arg3)) 0 slices_S3x2x16x2048x64_S1x2x16x2048x64_0_0_0_0_0)
        (third (m (c.tc.loc main_arg0)) (m (c.tc.loc main_arg2)) (m (c.tc.loc main_arg3)) 1 slices_S3x2x16x2048x64_S1x2x16x2048x64_1_0_0_0_0)))
      (third (m (c.tc.loc main_arg0)) (m (c.tc.loc main_arg2)) (m (c.tc.loc main_arg3)) 2 slices_S3x2x16x2048x64_S1x2x16x2048x64_2_0_0_0_0)
      (m (c.tc.loc main_arg4)) (m (c.tc.loc main_arg5)) := by
  unfold Value.res_main_v37 out softmax exps along rowMax scores third qkv
  rfl

end Cert.ReferenceIdeal.Attend

end
-- ==== Proof.Softmax.lean ====
/-
  The softmax over the extended reals: taking the largest score off every score first, as the reference does, changes nothing
  where the scores left in are real, and the division by the total may come after the weighted sum.
-/
module

public import Idealize.ShloMosaic.PureOps.Ideal

@[expose] public section

noncomputable section

namespace Cert.Attention

open Idealize.ShloMosaic

/-- A nonnegative real factor goes through a sum of any extended reals. -/
theorem sum_mul_real {ι : Type} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (EReal.coe_nonneg.mpr hc) (EReal.coe_ne_top c) _ _

/-- A sum of reals is the real sum. -/
theorem sum_real {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The largest of scores that are real or −∞, one of them real, is real. -/
theorem max_real {ι : Type} [Fintype ι] (a : ι → EReal) (ht : ∀ i, a i ≠ ⊤) (i₀ : ι) (h₀ : a i₀ ≠ ⊥) :
    ∃ μ : ℝ, Finset.univ.fold max ⊥ a = (μ : EReal) := by
  have hb : Finset.univ.fold max ⊥ a ≠ ⊥ := fun e => h₀ (le_bot_iff.mp (e ▸ (Finset.le_fold_max (a i₀)).mpr (.inr ⟨i₀, Finset.mem_univ _, le_rfl⟩)))
  have htop : Finset.univ.fold max ⊥ a ≠ ⊤ :=
    ((Finset.fold_max_lt ⊤).mpr ⟨bot_lt_top, fun i _ => lt_top_iff_ne_top.mpr (ht i)⟩).ne
  exact ⟨_, (EReal.coe_toReal htop hb).symm⟩

variable {ι : Type} [Fintype ι] (P : ι → Prop) [DecidablePred P] (σ : ι → EReal)

/-- Unmasked real scores, −∞ elsewhere: the shifted softmax's weighted sum is the plain exponentials' over their total. -/
theorem softmax_shift (hσ : ∀ i, P i → ∃ r : ℝ, σ i = (r : EReal)) (i₀ : ι) (h₀ : P i₀) (a : ι → EReal)
    (ha : ∀ i, a i = if P i then σ i else ⊥) (v : ι → EReal) :
    (∑ i, Ideal.div (Ideal.exp (a i - Finset.univ.fold max ⊥ a)) (∑ k, Ideal.exp (a k - Finset.univ.fold max ⊥ a)) * v i)
      = (∑ i, (if P i then Ideal.exp (σ i) else 0) * v i) * Ideal.div 1 (∑ i, if P i then Ideal.exp (σ i) else 0) := by
  choose! s hs using hσ
  obtain ⟨μ, hμ⟩ := max_real a (fun i => by
    rw [ha]; split
    · rename_i h; rw [hs i h]; exact EReal.coe_ne_top _
    · exact bot_ne_top) i₀ (by rw [ha, if_pos h₀, hs i₀ h₀]; exact EReal.coe_ne_bot _)
  rw [hμ]
  -- the plain exponentials, as reals, and their total
  let e : ι → ℝ := fun i => if P i then Real.exp (s i) else 0
  have he : ∀ i, (if P i then Ideal.exp (σ i) else 0) = (e i : EReal) := fun i => by
    by_cases h : P i
    · simp only [e, if_pos h, hs i h, Ideal.exp_coe]
    · simp only [e, if_neg h, EReal.coe_zero]
  have hp : ∀ i, Ideal.exp (a i - (μ : EReal)) = ((e i * Real.exp (-μ) : ℝ) : EReal) := fun i => by
    rw [ha]
    by_cases h : P i
    · rw [if_pos h, hs i h, ← EReal.coe_sub, Ideal.exp_coe, sub_eq_add_neg, Real.exp_add]
      simp only [e, if_pos h]
    · rw [if_neg h, EReal.bot_sub, Ideal.exp_bot]
      simp only [e, if_neg h, zero_mul, EReal.coe_zero]
  have hnn : ∀ i, 0 ≤ e i := fun i => by
    simp only [e]; split
    · exact (Real.exp_pos _).le
    · exact le_rfl
  have hS : 0 < ∑ i, e i := Finset.sum_pos' (fun i _ => hnn i) ⟨i₀, Finset.mem_univ _, by simp only [e, if_pos h₀]; exact Real.exp_pos _⟩
  have hx : 0 < Real.exp (-μ) := Real.exp_pos _
  simp only [hp, he]
  rw [sum_real, sum_real, ← Finset.sum_mul, Ideal.div_coe hS.ne', one_mul,
    sum_mul_real _ _ (by positivity)]
  refine Finset.sum_congr rfl fun i _ => ?_
  rw [Ideal.div_coe (mul_pos hS hx).ne', ← EReal.coe_mul, mul_right_comm (e i : EReal) (v i), ← EReal.coe_mul]
  congr 2
  field_simp

end Cert.Attention

end
-- ==== Proof.Agree.lean ====
/-
  Both programs compute `Attention.output`: the kernel from any arguments, the reference where the mask is causal and the
  scores are real.
-/
module

public import proofs.«01_k».proof.Proof.KernelValue
public import proofs.«01_k».proof.Proof.Reference
public import proofs.«01_k».proof.Proof.Softmax

@[expose] public section

noncomputable section

namespace Cert.Attention

open Idealize.ShloMosaic Idealize.ShloMosaic.TcCoe

/-! ## The kernel -/

section

open Cert.KernelIdeal Cert.KernelIdeal.Gen Cert.KernelIdeal.Attend

variable (m : (ℓ : Loc Cert.KernelIdeal.nD Cert.KernelIdeal.τ Cert.KernelIdeal.sig) → Buf (Elt Ideal) ℓ) (c : Dev Cert.KernelIdeal.nD)

/-- The kernel's queries are the projection's times 1/8: the factor comes out of the sum. -/
theorem queries_scaled (t : Fin cfg0.N) (r : Fin 2048) (e : Fin 512) : queries m c t (ix2 r e)
    = proj (input m c) (weights m c) (biases m c) (batch t) r (groupCol t 0 e) * ((1 / 8 : ℝ) : EReal) := by
  have h8 : (0 : ℝ) ≤ 1 / 8 := by norm_num
  rw [queries_eq]
  unfold proj
  rw [EReal.right_distrib_of_nonneg_of_ne_top (EReal.coe_nonneg.mpr h8) (EReal.coe_ne_top _), sum_mul_real _ _ h8]
  simp only [mul_assoc]

/-- Head `h` of point `t`'s group, among all the heads. -/
def headOf (t : Fin cfg0.N) (h : Fin 8) : Fin 16 := ⟨8 * (t.val % 2) + h.val, by omega⟩

theorem groupCol_col (t : Fin cfg0.N) (p : Fin 3) (h : Fin 8) (d : Fin 64) : groupCol t p (col h d) = column p (headOf t h) d :=
  Fin.ext (show 1024 * p.val + 512 * (t.val % 2) + (64 * h.val + d.val) = 1024 * p.val + 64 * (8 * (t.val % 2) + h.val) + d.val by omega)

theorem weight_eq (t : Fin cfg0.N) (r : Fin 2048) (h : Fin 8) (s : Fin 2048) :
    weight (queries m c t) (keys m c t) r h s = expScore (input m c) (weights m c) (biases m c) (batch t) (headOf t h) r s := by
  have h8 : (0 : ℝ) ≤ 1 / 8 := by norm_num
  unfold weight expScore score
  rw [sum_mul_real _ _ h8]
  simp only [queries_scaled, keys_eq, groupCol_col, mul_right_comm _ (((1 / 8 : ℝ) : EReal))]

theorem attended_eq (t : Fin cfg0.N) (r : Fin 2048) (h : Fin 8) (d : Fin 64) :
    attended (queries m c t) (keys m c t) (values m c t) r h d
      = head (input m c) (weights m c) (biases m c) (batch t) (headOf t h) r d := by
  unfold attended head
  simp only [weight_eq, values_eq, groupCol_col]

/-- One column of a group's contribution is column `512 g + e` of all the heads' outputs. -/
theorem term_eq (b g : Fin 2) (r : Fin 2048) (j : Fin 1024) (e : Fin 512) (n : Fin 1024) (hn : n.val = 512 * g.val + e.val) :
    attended (queries m c (point b g)) (keys m c (point b g)) (values m c (point b g)) r ⟨e.val / 64, by omega⟩
        ⟨e.val % 64, Nat.mod_lt _ (by decide)⟩ * slab m c (point b g) (ix2 e j)
      = head (input m c) (weights m c) (biases m c) b ⟨n.val / 64, by omega⟩ r ⟨n.val % 64, Nat.mod_lt _ (by decide)⟩
        * outWeights m c (ix2 n j) := by
  have hp : (point b g).val % 2 = g.val := show (2 * b.val + g.val) % 2 = g.val by omega
  rw [attended_eq, slab_eq]
  have e0 : batch (point b g) = b := Fin.ext (show (2 * b.val + g.val) / 2 = b.val by omega)
  have e1 : headOf (point b g) ⟨e.val / 64, by omega⟩ = ⟨n.val / 64, by omega⟩ :=
    Fin.ext (show 8 * ((point b g).val % 2) + e.val / 64 = n.val / 64 by omega)
  have e2 : (⟨e.val % 64, Nat.mod_lt _ (by decide)⟩ : Fin 64) = ⟨n.val % 64, Nat.mod_lt _ (by decide)⟩ :=
    Fin.ext (show e.val % 64 = n.val % 64 by omega)
  have e3 : (⟨512 * ((point b g).val % 2) + e.val, by omega⟩ : Fin 1024) = n :=
    Fin.ext (show 512 * ((point b g).val % 2) + e.val = n.val by omega)
  rw [e0, e1, e2, e3]

/-- The kernel's result. -/
theorem kernel_eq : result m c = output (input m c) (weights m c) (biases m c) (outWeights m c) (outBiases m c) := by
  funext i
  unfold result output contributed contribution
  rw [add_assoc, add_comm]
  refine congrArg (· + _) ?_
  rw [show (∑ n : Fin 1024, head (input m c) (weights m c) (biases m c) (i 0) ⟨n.val / 64, by omega⟩ (i 1)
        ⟨n.val % 64, Nat.mod_lt _ (by decide)⟩ * outWeights m c (ix2 n (i 2)))
      = _ from Fin.sum_univ_add (a := 512) (b := 512) _]
  exact congrArg₂ (· + ·)
    (Finset.sum_congr rfl fun e _ => term_eq m c (i 0) 0 (i 1) (i 2) e (Fin.castAdd 512 e) (show e.val = 512 * 0 + e.val by omega))
    (Finset.sum_congr rfl fun e _ => term_eq m c (i 0) 1 (i 1) (i 2) e (Fin.natAdd 512 e) (show 512 + e.val = 512 * 1 + e.val by omega))

end

/-! ## The reference -/

section

open Cert.ReferenceIdeal Cert.ReferenceIdeal.Gen Cert.ReferenceIdeal.Attend

variable (x : FVec Ideal S2x2048x1024 .f32) (W : FVec Ideal S1024x3072 .f32) (β : FVec Ideal S3072 .f32)

/-- Where its operands are real, a column of the projection is real. -/
theorem proj_real (hx : ∀ i, ∃ r : ℝ, x i = (r : EReal)) (b : Fin 2) (t : Fin 2048) (n : Fin 3072)
    (hW : ∀ k : Fin 1024, ∃ r : ℝ, W (ix2 k n) = (r : EReal)) (hβ : ∃ r : ℝ, β (ix1 n) = (r : EReal)) :
    ∃ r : ℝ, proj x W β b t n = (r : EReal) := by
  choose x' hx' using hx
  choose w hw using hW
  obtain ⟨y, hy⟩ := hβ
  unfold proj
  simp only [hx', hw, hy, ← EReal.coe_mul]
  rw [sum_real, ← EReal.coe_add]
  exact ⟨_, rfl⟩

theorem score_real (hx : ∀ i, ∃ r : ℝ, x i = (r : EReal))
    (hW : ∀ (k : Fin 1024) (n : Fin 3072), n.val < 2048 → ∃ r : ℝ, W (ix2 k n) = (r : EReal))
    (hβ : ∀ n : Fin 3072, n.val < 2048 → ∃ r : ℝ, β (ix1 n) = (r : EReal)) (b : Fin 2) (h : Fin 16) (t s : Fin 2048) :
    ∃ r : ℝ, score x W β b h t s = (r : EReal) := by
  have hp : ∀ (p : Fin 3), p.val < 2 → ∀ (t : Fin 2048) (d : Fin 64), ∃ r : ℝ, proj x W β b t (column p h d) = (r : EReal) :=
    fun p hp t d =>
      have hn : (column p h d).val < 2048 := show 1024 * p.val + 64 * h.val + d.val < 2048 by omega
      proj_real x W β hx b t _ (fun k => hW k _ hn) (hβ _ hn)
  choose q hq using hp 0 (by decide) t
  choose k hk using hp 1 (by decide) s
  unfold score
  simp only [hq, hk, ← EReal.coe_mul]
  rw [sum_real, ← EReal.coe_mul]
  exact ⟨_, rfl⟩

/-- The reference's result. -/
theorem reference_eq (m : (ℓ : Loc nD τ sig) → Buf (Elt Ideal) ℓ) (c : Dev nD)
    (hm : ∀ t s : Fin 2048, (m (c.tc.loc main_arg1) : IVec S1x1x2048x2048 32) (ix4 0 0 t s) = if s.val ≤ t.val then 1#32 else 0#32)
    (hs : ∀ b h t s, ∃ r : ℝ, score (m (c.tc.loc main_arg0)) (m (c.tc.loc main_arg2)) (m (c.tc.loc main_arg3)) b h t s = (r : EReal)) :
    Value.res_main_v37 m c = output (m (c.tc.loc main_arg0)) (m (c.tc.loc main_arg2)) (m (c.tc.loc main_arg3))
      (m (c.tc.loc main_arg4)) (m (c.tc.loc main_arg5)) := by
  rw [result_eq]
  funext i
  obtain ⟨b, t, j, rfl⟩ : ∃ (b : Fin 2) (t : Fin 2048) (j : Fin 1024), i = ix3 b t j := ⟨i 0, i 1, i 2, eq_ix3 i⟩
  rw [out_apply]
  refine congrArg (· + _) (Finset.sum_congr rfl fun n _ => congrArg (· * _) ?_)
  simp only [softmax_apply, exps_apply, third_apply]
  unfold head
  refine softmax_shift (fun s : Fin 2048 => s.val ≤ t.val) _ (fun s _ => hs b _ t s) t le_rfl _ (fun s => ?_) _
  rw [scores_apply, hm]
  by_cases hle : s.val ≤ t.val
  · rw [if_pos hle, if_pos hle, if_neg (by decide)]
    simp only [third_apply]
    rfl
  · rw [if_neg hle, if_neg hle, if_pos rfl]

end

end Cert.Attention

end
-- ==== Proof.Precondition.lean ====
/-
  The precondition, element by element: the mask is 1 up to the diagonal and 0 above it, and the input and the queries' and
  keys' weights and biases are real.
-/
module

public import proofs.«01_k».proof.Pre_causal_and_finite
public import proofs.«01_k».proof.Proof.Consts
public import Idealize.ShloMosaic.Lib.Pointwise
public import Idealize.ShloMosaic.Lib.ReduceAll
public import Idealize.ShloMosaic.Lib.WordCmp

@[expose] public section

noncomputable section

namespace Cert.Attention

open Cert.Pre_causal_and_finite Cert.Pre_causal_and_finite.Facts Idealize.ShloMosaic

/-- Both of two bits are set where their conjunction is. -/
theorem and_bits {a b : BitVec 1} (h : IntOp.andi a b = 1#1) : a = 1#1 ∧ b = 1#1 := by
  revert a b; decide

/-- Words that compare equal are equal. -/
theorem eq_of_cmpi {a b : BitVec 32} (h : IntOp.cmpi .eq a b = 1#1) : a = b := by
  by_contra hn
  have e : BitVec.ofBool (a == b) = 1#1 := h
  rw [beq_eq_false_iff_ne.mpr hn] at e
  exact absurd e (by decide)

/-- A number whose absolute value is below +∞ is real. -/
theorem real_of_lt (a : EReal) (h : FloatOps.cmpf (F := Ideal) (φ := .f32) .olt (max a (-a)) (Ideal.ofBits .f32 0x7F800000#32) = 1#1) :
    ∃ r : ℝ, a = (r : EReal) := by
  rw [top_f32] at h
  have hlt : max a (-a) < ⊤ := by
    by_contra hn
    have e : BitVec.ofBool (decide (max a (-a) < ⊤)) = 1#1 := h
    rw [decide_eq_false hn] at e
    exact absurd e (by decide)
  obtain ⟨h1, h2⟩ := max_lt_iff.mp hlt
  have hb : a ≠ ⊥ := fun e => by rw [e, EReal.neg_bot] at h2; exact lt_irrefl _ h2
  exact ⟨a.toReal, (EReal.coe_toReal h1.ne hb).symm⟩

/-- `jnp.all` of an array's absolute values below +∞. -/
theorem real_of_all {s : Shape} {axes : List (Fin s.rank)} (x : FVec Ideal s .f32) (hb : S_.BroadcastsInDim s (![] : Fin 0 → Fin s.rank))
    (hr : s.ReducesTo axes S_) (hu : 0 < S_.numel)
    (h : Host.reduce IntOp.andi (cmpf .olt (Host.absf x) (broadcastInDim s ![] hb (constant S_ .f32 0x7F800000#32)))
      (constantI S_ 1 1#1) hr hu ix0 = 1#1) (i : s.Idx) : ∃ r : ℝ, x i = (r : EReal) := by
  haveI : Subsingleton S_.Idx := ⟨fun a b => funext fun k => k.elim0⟩
  exact real_of_lt _ (Host.reduce_andi_all _ _ hr hu ix0 h i)

variable [Facts]

/-- What the precondition says of the arguments. -/
theorem pre_holds (x : FVec Ideal S2x2048x1024 .f32) (mask : IVec S1x1x2048x2048 32) (W : FVec Ideal S1024x3072 .f32)
    (β : FVec Ideal S3072 .f32) (wo : FVec Ideal S1024x1024 .f32) (bo : FVec Ideal S1024 .f32)
    (h : fn (F := Ideal) x mask W β wo bo = fun _ => 1#1) :
    (∀ t s : Fin 2048, mask (ix4 0 0 t s) = if s.val ≤ t.val then 1#32 else 0#32) ∧ (∀ i, ∃ r : ℝ, x i = (r : EReal))
      ∧ (∀ (k : Fin 1024) (n : Fin 3072), n.val < 2048 → ∃ r : ℝ, W (ix2 k n) = (r : EReal))
      ∧ (∀ n : Fin 3072, n.val < 2048 → ∃ r : ℝ, β (ix1 n) = (r : EReal)) := by
  have h0 := congrFun h ix0
  obtain ⟨hm, hf⟩ := and_bits h0
  obtain ⟨hxw, hβ⟩ := and_bits hf
  obtain ⟨hx, hw⟩ := and_bits hxw
  refine ⟨fun t s => ?_, real_of_all x bcast_S_S2x2048x1024 reducesTo_S2x2048x1024_S_d0_1_2 h_S_ hx, fun k n hn => ?_, fun n hn => ?_⟩
  · haveI : Subsingleton S_.Idx := ⟨fun a b => funext fun k => k.elim0⟩
    have e := Host.reduce_andi_all _ _ reducesTo_S1x1x2048x2048_S_d0_1_2_3 h_S_ ix0 hm (ix4 0 0 t s)
    revert e
    pointwise
    rw [WordCmp.cmpi_sle_ofNat (by omega) (by omega)]
    intro e
    rw [eq_of_cmpi e]
    split
    · rename_i hle; rw [decide_eq_true hle]; rfl
    · rename_i hle; rw [decide_eq_false hle]; rfl
  · have e := real_of_all _ bcast_S_S1024x2048 reducesTo_S1024x2048_S_d0_1 h_S_ hw (ix2 k ⟨n.val, hn⟩)
    revert e
    pointwise
    exact id
  · have e := real_of_all _ bcast_S_S2048 reducesTo_S2048_S_d0 h_S_ hβ (ix1 ⟨n.val, hn⟩)
    revert e
    pointwise
    exact id

end Cert.Attention

end
-- ==== Proof.lean ====
/-
  The claims about the attention kernel: it and its reading over the extended reals run to the end with their arguments
  unchanged, so does the reference, the reading is the kernel with the mask's word −1e30 taken as −∞, and where the mask is
  causal and the queries' and keys' operands are finite, kernel and reference compute the same array.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal
public import proofs.«01_k».proof.Proof.Gen.Pre_causal_and_finite
public import proofs.«01_k».proof.Proof.Agree
public import proofs.«01_k».proof.Proof.Precondition
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The reference runs to the end, its arguments unchanged and no semaphore left raised. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- Kernel and reference both end with `Attention.output` of the arguments. -/
theorem algebraic : Cert.algebraic_KernelIdeal_ReferenceIdeal_pre_causal_and_finite := by
  intro m ρ m' ρ' hpre hagree
  refine ⟨fun c => Cert.KernelIdeal.Attend.result m c,
    (θ_run Cert.KernelIdeal.defs _ _).mono
      (fun _ h c => ⟨(h c).1.trans (Cert.KernelIdeal.Attend.final_eq m c), (h c).2⟩) (Cert.KernelIdeal.Value.run_blocks m ρ),
    (θ_run Cert.ReferenceIdeal.defs _ _).mono (fun _ h c => ⟨(h c).1.trans ?_, (h c).2⟩)
      (Cert.ReferenceIdeal.Value.run (F := Ideal) m' ρ')⟩
  obtain ⟨hm, hx, hW, hβ⟩ := Cert.Attention.pre_holds _ _ _ _ _ _ (hpre c)
  obtain ⟨a0, a1, a2, a3, a4, a5⟩ := hagree c
  rw [← a1] at hm
  rw [← a0] at hx
  rw [← a2] at hW
  rw [← a3] at hβ
  refine (Cert.Attention.reference_eq m' c hm (fun b h t s => Cert.Attention.score_real _ _ _ hx hW hβ b h t s)).trans ?_
  rw [a0, a2, a3, a4, a5]
  exact (Cert.Attention.kernel_eq m c).symm

theorem claim : Cert.Claim := ⟨Cert.Kernel.Gen.facts, Cert.KernelIdeal.Gen.facts, Cert.ReferenceIdeal.Gen.facts, Cert.Pre_causal_and_finite.Gen.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial,
  IdealRules.named_const.statement Cert.KernelIdeal.κ "mask" .f32 _ ⊥ rfl, algebraic⟩

end Cert.Proof

end
